-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_KernelIdeal [hPre_finite_queries_KernelIdeal : Cert.Pre_finite_queries_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_ReferenceIdeal [hPre_finite_queries_ReferenceIdeal : Cert.Pre_finite_queries_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_KernelIdeal [hKernelIdeal : Cert.KernelIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_ReferenceIdeal [hReferenceIdeal : Cert.ReferenceIdeal.Facts] [hPre_finite_queries_ReferenceIdeal : Cert.Pre_finite_queries_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_KernelIdeal [hKernelIdeal : Cert.KernelIdeal.Facts] [hReferenceIdeal : Cert.ReferenceIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![8192, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![8192, 256]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 256]⟩ ⟨2, ![8192, 256]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![8192, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_KernelIdeal : Cert.Pre_finite_queries_KernelIdeal.Facts) (hPre_finite_queries_ReferenceIdeal : Cert.Pre_finite_queries_ReferenceIdeal.Facts),
    quiescent_Kernel (hKernel := hKernel)
    ∧ quiescent_KernelIdeal (hKernelIdeal := hKernelIdeal)
    ∧ quiescent_KernelIdeal_pre_finite_queries_KernelIdeal (hKernelIdeal := hKernelIdeal) (hPre_finite_queries_KernelIdeal := hPre_finite_queries_KernelIdeal)
    ∧ quiescent_ReferenceIdeal (hReferenceIdeal := hReferenceIdeal)
    ∧ quiescent_ReferenceIdeal_pre_finite_queries_ReferenceIdeal (hReferenceIdeal := hReferenceIdeal) (hPre_finite_queries_ReferenceIdeal := hPre_finite_queries_ReferenceIdeal)
    ∧ preserves_Kernel_KernelIdeal
    ∧ algebraic_KernelIdeal_ReferenceIdeal_pre_finite_queries_KernelIdeal (hKernelIdeal := hKernelIdeal) (hReferenceIdeal := hReferenceIdeal) (hPre_finite_queries_KernelIdeal := hPre_finite_queries_KernelIdeal)
-- ==== Pre_finite_queries_KernelIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) (main_arg1 : FVec F S2048x256 .f32) (main_arg2 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  main_v3
-- ==== Pre_finite_queries_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S2048x256 : Shape := ⟨2, ![2048, 256]⟩
abbrev S2x2x1024x256 : Shape := ⟨4, ![2, 2, 1024, 256]⟩
abbrev S3x2x2x1024x256 : Shape := ⟨5, ![3, 2, 2, 1024, 256]⟩
abbrev S3x2 : Shape := ⟨2, ![3, 2]⟩
abbrev S_ : Shape := ⟨0, ![]⟩
abbrev S1024x256 : Shape := ⟨2, ![1024, 256]⟩
abbrev S1x1x1024x256 : Shape := ⟨4, ![1, 1, 1024, 256]⟩
abbrev S1x1 : Shape := ⟨2, ![1, 1]⟩
abbrev S1x1x2x1024x256 : Shape := ⟨5, ![1, 1, 2, 1024, 256]⟩
abbrev S2x1024x256 : Shape := ⟨3, ![2, 1024, 256]⟩
abbrev S1x2x1024x256 : Shape := ⟨4, ![1, 2, 1024, 256]⟩
abbrev S1024x1024 : Shape := ⟨2, ![1024, 1024]⟩
abbrev S1024 : Shape := ⟨1, ![1024]⟩
abbrev S1024x1 : Shape := ⟨2, ![1024, 1]⟩
abbrev S1x1x1x1024x256 : Shape := ⟨5, ![1, 1, 1, 1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2x2x1024x256, .i8⟩
  | .local _ .vmem, ⟨5, _⟩ => ⟨S3x2x2x1024x256, .i8⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_28 : BitVec 32 := 3#32
  let v42 : BitVec 32 := Scalar.addi v2 c3_i32_28
  let c4_i32_29 : BitVec 32 := 4#32
  let v43 : BitVec 32 := Scalar.remsi v42 c4_i32_29
  let c1_i32_37 : BitVec 32 := 1#32
  let v44 : BitVec 32 := Scalar.muli v43 c1_i32_37
  let v45 : BitVec 32 := Scalar.addi c0_i32_38 v44
  v45.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v54 : BitVec 32 := Scalar.addi v2 c1_i32_45
  let c4_i32_46 : BitVec 32 := 4#32
  let v55 : BitVec 32 := Scalar.remsi v54 c4_i32_46
  let c1_i32_54 : BitVec 32 := 1#32
  let v56 : BitVec 32 := Scalar.muli v55 c1_i32_54
  let v57 : BitVec 32 := Scalar.addi c0_i32_55 v56
  v57.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_79 : BitVec 32 := 3#32
  let v92 : BitVec 32 := Scalar.addi v2 c3_i32_79
  let c4_i32_80 : BitVec 32 := 4#32
  let v93 : BitVec 32 := Scalar.remsi v92 c4_i32_80
  let c1_i32_88 : BitVec 32 := 1#32
  let v94 : BitVec 32 := Scalar.muli v93 c1_i32_88
  let v95 : BitVec 32 := Scalar.addi c0_i32_89 v94
  v95.toNat
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_96 : BitVec 32 := 1#32
  let v104 : BitVec 32 := Scalar.addi v2 c1_i32_96
  let c4_i32_97 : BitVec 32 := 4#32
  let v105 : BitVec 32 := Scalar.remsi v104 c4_i32_97
  let c1_i32_105 : BitVec 32 := 1#32
  let v106 : BitVec 32 := Scalar.muli v105 c1_i32_105
  let v107 : BitVec 32 := Scalar.addi c0_i32_106 v106
  v107.toNat
def k0_dev8 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_203 : BitVec 32 := 2#32
  let v190 : BitVec 32 := Scalar.addi v2 c2_i32_203
  let c4_i32_204 : BitVec 32 := 4#32
  let v191 : BitVec 32 := Scalar.remsi v190 c4_i32_204
  let c1_i32_212 : BitVec 32 := 1#32
  let v192 : BitVec 32 := Scalar.muli v191 c1_i32_212
  let v193 : BitVec 32 := Scalar.addi c0_i32_213 v192
  v193.toNat
def k0_dev9 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_220 : BitVec 32 := 2#32
  let v202 : BitVec 32 := Scalar.addi v2 c2_i32_220
  let c4_i32_221 : BitVec 32 := 4#32
  let v203 : BitVec 32 := Scalar.remsi v202 c4_i32_221
  let c1_i32_229 : BitVec 32 := 1#32
  let v204 : BitVec 32 := Scalar.muli v203 c1_i32_229
  let v205 : BitVec 32 := Scalar.addi c0_i32_230 v204
  v205.toNat
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x256 : Shape := ⟨2, ![8192, 256]⟩
abbrev S_ : Shape := ⟨0, ![]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S256x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x8192, .f32⟩
  | .hbm, ⟨50, _⟩ => ⟨S8192x8192, .f32⟩
  | .hbm, ⟨51, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩
abbrev main_v7 : Ref sig .tc := ⟨.hbm, 20, rfl⟩
abbrev main_cst_4 : Ref sig .tc := ⟨.hbm, 21, rfl⟩
abbrev main_cst_5 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v8 : Ref sig .tc := ⟨.hbm, 28, rfl⟩
abbrev main_v9 : Ref sig .tc := ⟨.hbm, 29, rfl⟩
abbrev main_cst_6 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_7 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_8 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_9 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩

abbrev nD : Nat := 1
abbrev τ : Topo := Topo.v7x

variable {F : FTy → Type} [FloatOps F]
-- ==== Proof.Layout.lean ====
/- The buffers the kernel moves data through: the devices' neighbours, the chunks of the quantised keys and values
   (`kv`, two chunks of a key block and a value block), the landing slots (`cm`, three senders by two chunks), the
   elements each covers, and the contents they end with. Nothing here speaks of the run. -/
module

public import proofs.«01_k».proof.Proof.Gen.KernelIdeal
public import proofs.«01_k».proof.Proof.Gen.KernelIdeal.Skeleton
public import Idealize.ShloMosaic.Lib.ValueLayout
public import Idealize.ShloMosaic.Lib.Tactic

@[expose] public section

noncomputable section

namespace Cert.GatherProof

open Cert.KernelIdeal Cert.KernelIdeal.Gen
open Idealize.ShloMosaic
open Idealize.ShloMosaic.TcCoe
open Idealize.ShloMosaic.ValueIdx

variable {F : FTy → Type} [FloatOps F]

/-! ## Devices -/

set_option backward.proofsInPublic true in
/-- The device slot `j` of device `c` is filled from. -/
def src (j : Fin 3) (c : Dev nD) : Dev nD := ⟨(c.val + j.val + 1) % 4, Nat.mod_lt _ (by decide)⟩
set_option backward.proofsInPublic true in
/-- The device whose slot `j` device `c` fills. -/
def tgt (j : Fin 3) (c : Dev nD) : Dev nD := ⟨(c.val + 3 - j.val) % 4, Nat.mod_lt _ (by decide)⟩

/-- Being the source and being the target for a slot are inverse to one another. -/
theorem src_tgt (j : Fin 3) (c : Dev nD) : src j (tgt j c) = c := by revert j c; decide
theorem tgt_src (j : Fin 3) (c : Dev nD) : tgt j (src j c) = c := by revert j c; decide
/-- Filling slot `j`: a permutation of the devices. -/
def around (j : Fin 3) : Dev nD ≃ Dev nD := ⟨tgt j, src j, src_tgt j, tgt_src j⟩

/-- The devices that the body signals and copies to, as printed, are those of the ring. -/
theorem dev1_eq (c : Dev nD) : (⟨k0_dev1 c, k0_dev1_lt c⟩ : Dev nD) = src 0 c := Fin.ext (k0_dev1_eq c)
theorem dev2_eq (c : Dev nD) : (⟨k0_dev2 c, k0_dev2_lt c⟩ : Dev nD) = src 1 c := Fin.ext (k0_dev2_eq c)
theorem dev3_eq (c : Dev nD) : (⟨k0_dev3 c, k0_dev3_lt c⟩ : Dev nD) = src 2 c := Fin.ext (k0_dev3_eq c)
theorem dev4_eq (c : Dev nD) : (⟨k0_dev4 c, k0_dev4_lt c⟩ : Dev nD) = tgt 0 c := Fin.ext (k0_dev4_eq c)
theorem dev5_eq (c : Dev nD) : (⟨k0_dev5 c, k0_dev5_lt c⟩ : Dev nD) = tgt 2 c := Fin.ext (k0_dev5_eq c)
theorem dev6_eq (c : Dev nD) : (⟨k0_dev6 c, k0_dev6_lt c⟩ : Dev nD) = tgt 0 c := Fin.ext (k0_dev6_eq c)
theorem dev7_eq (c : Dev nD) : (⟨k0_dev7 c, k0_dev7_lt c⟩ : Dev nD) = tgt 2 c := Fin.ext (k0_dev7_eq c)
theorem dev8_eq (c : Dev nD) : (⟨k0_dev8 c, k0_dev8_lt c⟩ : Dev nD) = tgt 1 c := Fin.ext (k0_dev8_eq c)
theorem dev9_eq (c : Dev nD) : (⟨k0_dev9 c, k0_dev9_lt c⟩ : Dev nD) = tgt 1 c := Fin.ext (k0_dev9_eq c)

/-! ## Memrefs -/

/-- A transfer: the slot it fills and the chunk it carries. -/
abbrev X : Type := Fin 3 × Fin 2

abbrev qB : Memref sig .tc .vmem S2048x256 .f32 := Memref.whole cc0_stg0_0
abbrev kB : Memref sig .tc .vmem S2048x256 .f32 := Memref.whole cc0_stg1_0
abbrev vB : Memref sig .tc .vmem S2048x256 .f32 := Memref.whole cc0_stg2_0
abbrev oB : Memref sig .tc .vmem S2048x256 .f32 := Memref.whole cc0_stg3_0
abbrev kvB : Memref sig .tc .vmem S2x2x1024x256 .i8 := Memref.whole cc0_scratch0
abbrev cmB : Memref sig .tc .vmem S3x2x2x1024x256 .i8 := Memref.whole cc0_scratch1

theorem inb_kvR (ch : Fin 2) : ∀ a, (![ch.val, 0, 0, 0] : Fin 4 → Nat) a + S1x2x1024x256.size a ≤ S2x2x1024x256.size a := by
  revert ch; decide
theorem inb_cmR (x : X) : ∀ a, (![x.1.val, x.2.val, 0, 0, 0] : Fin 5 → Nat) a + S1x1x2x1024x256.size a ≤ S3x2x2x1024x256.size a := by
  revert x; decide
theorem inb_kvE (ch w : Fin 2) : ∀ a, (![ch.val, w.val, 0, 0] : Fin 4 → Nat) a + S1x1x1024x256.size a ≤ S2x2x1024x256.size a := by
  revert ch w; decide
theorem inb_cmE (x : X) (w : Fin 2) : ∀ a, (![x.1.val, x.2.val, w.val, 0, 0] : Fin 5 → Nat) a + S1x1x1x1024x256.size a ≤ S3x2x2x1024x256.size a := by
  revert x w; decide
theorem inb_row (h : Fin 2) : ∀ a, (![1024 * h.val, 0] : Fin 2 → Nat) a + S1024x256.size a ≤ S2048x256.size a := by
  revert h; decide

/-- Chunk `ch` of the device's quantised keys and values. -/
abbrev kvM (ch : Fin 2) : Memref sig .tc .vmem S2x1024x256 .i8 :=
  (kvB.slice (Rect.unit (s := S2x2x1024x256) ![ch.val, 0, 0, 0] S1x2x1024x256.size (inb_kvR ch)) (fun _ => rfl)).squeeze S2x1024x256 squeezes_S1x2x1024x256_S2x1024x256
/-- The landing place of transfer `x`. -/
abbrev cmM (x : X) : Memref sig .tc .vmem S2x1024x256 .i8 :=
  (cmB.slice (Rect.unit (s := S3x2x2x1024x256) ![x.1.val, x.2.val, 0, 0, 0] S1x1x2x1024x256.size (inb_cmR x)) (fun _ => rfl)).squeeze S2x1024x256 squeezes_S1x1x2x1024x256_S2x1024x256

/-- The rectangles the loads and stores name. -/
abbrev kvE (ch w : Fin 2) : Rect S2x2x1024x256 := Rect.unit (s := S2x2x1024x256) ![ch.val, w.val, 0, 0] S1x1x1024x256.size (inb_kvE ch w)
abbrev cmE (x : X) (w : Fin 2) : Rect S3x2x2x1024x256 :=
  Rect.unit (s := S3x2x2x1024x256) ![x.1.val, x.2.val, w.val, 0, 0] S1x1x1x1024x256.size (inb_cmE x w)
abbrev rowE (h : Fin 2) : Rect S2048x256 := Rect.unit (s := S2048x256) ![1024 * h.val, 0] S1024x256.size (inb_row h)

/-! ## The elements they cover -/

/-- Chunk `ch`: the elements whose first coordinate is `ch`. -/
def kvS (ch : Fin 2) : Finset S2x2x1024x256.Idx := (Rect.unit (s := S2x2x1024x256) ![ch.val, 0, 0, 0] S1x2x1024x256.size (inb_kvR ch)).set
/-- The landing place of `x`: the elements whose first two coordinates are `x`. -/
def cmS (x : X) : Finset S3x2x2x1024x256.Idx := (Rect.unit (s := S3x2x2x1024x256) ![x.1.val, x.2.val, 0, 0, 0] S1x1x2x1024x256.size (inb_cmR x)).set

theorem mem_kvS {ch : Fin 2} {i : S2x2x1024x256.Idx} : i ∈ kvS ch ↔ (i 0 : Fin 2) = ch := by
  refine Rect.mem_set_unit.trans ⟨fun h => ?_, fun h a => ?_⟩
  · obtain ⟨a, b⟩ := h 0
    have a' : ch.val ≤ (i 0).val := a
    have b' : (i 0).val < ch.val + 1 := b
    exact Fin.ext (by omega)
  · have h' : (i 0).val = ch.val := congrArg Fin.val h
    match a with
    | ⟨0, _⟩ => exact ⟨(show ch.val ≤ (i 0).val by omega), (show (i 0).val < ch.val + 1 by omega)⟩
    | ⟨1, _⟩ => exact ⟨Nat.zero_le _, (show (i 1).val < 0 + 2 from (Nat.zero_add 2).symm ▸ (i 1).isLt)⟩
    | ⟨2, _⟩ => exact ⟨Nat.zero_le _, (show (i 2).val < 0 + 1024 from (Nat.zero_add 1024).symm ▸ (i 2).isLt)⟩
    | ⟨3, _⟩ => exact ⟨Nat.zero_le _, (show (i 3).val < 0 + 256 from (Nat.zero_add 256).symm ▸ (i 3).isLt)⟩
theorem mem_cmS {x : X} {i : S3x2x2x1024x256.Idx} : i ∈ cmS x ↔ (i 0 : Fin 3) = x.1 ∧ (i 1 : Fin 2) = x.2 := by
  refine Rect.mem_set_unit.trans ⟨fun h => ⟨?_, ?_⟩, fun h a => ?_⟩
  · obtain ⟨a, b⟩ := h 0
    have a' : x.1.val ≤ (i 0).val := a
    have b' : (i 0).val < x.1.val + 1 := b
    exact Fin.ext (by omega)
  · obtain ⟨a, b⟩ := h 1
    have a' : x.2.val ≤ (i 1).val := a
    have b' : (i 1).val < x.2.val + 1 := b
    exact Fin.ext (by omega)
  · have h0 : (i 0).val = x.1.val := congrArg Fin.val h.1
    have h1 : (i 1).val = x.2.val := congrArg Fin.val h.2
    match a with
    | ⟨0, _⟩ => exact ⟨(show x.1.val ≤ (i 0).val by omega), (show (i 0).val < x.1.val + 1 by omega)⟩
    | ⟨1, _⟩ => exact ⟨(show x.2.val ≤ (i 1).val by omega), (show (i 1).val < x.2.val + 1 by omega)⟩
    | ⟨2, _⟩ => exact ⟨Nat.zero_le _, (show (i 2).val < 0 + 2 from (Nat.zero_add 2).symm ▸ (i 2).isLt)⟩
    | ⟨3, _⟩ => exact ⟨Nat.zero_le _, (show (i 3).val < 0 + 1024 from (Nat.zero_add 1024).symm ▸ (i 3).isLt)⟩
    | ⟨4, _⟩ => exact ⟨Nat.zero_le _, (show (i 4).val < 0 + 256 from (Nat.zero_add 256).symm ▸ (i 4).isLt)⟩

theorem kvM_set (ch : Fin 2) : (kvM ch).view.set = kvS ch :=
  (View.set_reshape _ _).trans (View.set_slice_whole _ _)
theorem cmM_set (x : X) : (cmM x).view.set = cmS x :=
  (View.set_reshape _ _).trans (View.set_slice_whole _ _)

/-- The chunks of the codes, and the slots of the received ones, are disjoint and cover their buffer. -/
theorem kvS_disj (a b : Fin 2) (h : a ≠ b) : Disjoint (kvS a) (kvS b) :=
  Finset.disjoint_left.mpr fun i ha hb => h ((mem_kvS.mp ha).symm.trans (mem_kvS.mp hb))
theorem cmS_disj (a b : X) (h : a ≠ b) : Disjoint (cmS a) (cmS b) :=
  Finset.disjoint_left.mpr fun i ha hb =>
    h (Prod.ext ((mem_cmS.mp ha).1.symm.trans (mem_cmS.mp hb).1) ((mem_cmS.mp ha).2.symm.trans (mem_cmS.mp hb).2))
theorem kvS_univ : Finset.univ.biUnion kvS = Finset.univ :=
  Finset.eq_univ_iff_forall.mpr fun i => Finset.mem_biUnion.mpr ⟨_, Finset.mem_univ _, mem_kvS.mpr rfl⟩
theorem cmS_univ : Finset.univ.biUnion cmS = Finset.univ :=
  Finset.eq_univ_iff_forall.mpr fun i => Finset.mem_biUnion.mpr ⟨((i 0 : Fin 3), (i 1 : Fin 2)), Finset.mem_univ _, mem_cmS.mpr ⟨rfl, rfl⟩⟩

/-! ## Contents -/

/-- Rows `1024 h … 1024 h + 1023` of a device's block. -/
def half (h : Fin 2) (x : Vec F S2048x256 .f32) : Vec F S1024x256 .f32 :=
  fun i => x (ix2 ⟨1024 * h.val + (i 0 : Fin 1024).val, by have h2 : h.val < 2 := h.isLt; have hi : (i 0).val < 1024 := (i 0).isLt; omega⟩ (i 1 : Fin 256))

/-- The quantised block the kernel stores at chunk `ch`: of the keys (`w = 0`) or of the values (`w = 1`). -/
def kvPiece (k v : Vec F S2048x256 .f32) : Fin 2 → Fin 2 → Vec F S1x1x1024x256 .i8
  | 0, 0 => k0_pay2 (k0_pay1 (half 0 k))
  | 0, 1 => k0_pay3 (half 0 v)
  | 1, 0 => k0_pay4 (half 1 k)
  | 1, 1 => k0_pay6 (Scalar.ofBits .f32 0x42FE0000#32) (k0_pay5 (half 1 v))

/-- The device's quantised keys and values. -/
def kvC (k v : Vec F S2048x256 .f32) : (cc0_scratch0 : Ref sig .tc).ty.Contents (Elt F) :=
  fun i => kvPiece k v (i 0 : Fin 2) (i 1 : Fin 2) (ix4 (0 : Fin 1) (0 : Fin 1) (i 2 : Fin 1024) (i 3 : Fin 256))

/-- What has landed on device `c` when every transfer is in: slot `j` holds `src j c`'s quantised keys and values. -/
def cmC (kv : Dev nD → (cc0_scratch0 : Ref sig .tc).ty.Contents (Elt F)) (c : Dev nD) : (cc0_scratch1 : Ref sig .tc).ty.Contents (Elt F) :=
  fun i => kv (src (i 0 : Fin 3) c) (ix4 (i 1 : Fin 2) (i 2 : Fin 2) (i 3 : Fin 1024) (i 4 : Fin 256))

/-- The landed block as the kernel loads it. -/
def cmPiece (p : Vec F S1x1x1024x256 .i8) : Vec F S1x1x1x1024x256 .i8 :=
  fun i => p (ix4 (0 : Fin 1) (0 : Fin 1) (i 3 : Fin 1024) (i 4 : Fin 256))

theorem kvM_emb (ch : Fin 2) (a : Fin 2) (b : Fin 1024) (d : Fin 256) : (kvM ch).view.emb (ix3 a b d) = ix4 ch a b d := by
  show (Rect.unit (s := S2x2x1024x256) ![ch.val, 0, 0, 0] S1x2x1024x256.size (inb_kvR ch)).emb (Shape.reshapeEquiv _ (ix3 a b d)) = _
  rw [reshapeEquiv_ix3_1abc]
  funext x
  match x with
  | ⟨0, _⟩ => exact Fin.ext (by show ch.val + 1 * 0 = ch.val; omega)
  | ⟨1, _⟩ => exact Fin.ext (by show 0 + 1 * a.val = a.val; omega)
  | ⟨2, _⟩ => exact Fin.ext (by show 0 + 1 * b.val = b.val; omega)
  | ⟨3, _⟩ => exact Fin.ext (by show 0 + 1 * d.val = d.val; omega)

theorem cmM_emb (x : X) (a : Fin 2) (b : Fin 1024) (d : Fin 256) : (cmM x).view.emb (ix3 a b d) = ix5 x.1 x.2 a b d := by
  show (Rect.unit (s := S3x2x2x1024x256) ![x.1.val, x.2.val, 0, 0, 0] S1x1x2x1024x256.size (inb_cmR x)).emb (Shape.reshapeEquiv _ (ix3 a b d)) = _
  rw [reshapeEquiv_ix3_11abc]
  funext y
  match y with
  | ⟨0, _⟩ => exact Fin.ext (by show x.1.val + 1 * 0 = x.1.val; omega)
  | ⟨1, _⟩ => exact Fin.ext (by show x.2.val + 1 * 0 = x.2.val; omega)
  | ⟨2, _⟩ => exact Fin.ext (by show 0 + 1 * a.val = a.val; omega)
  | ⟨3, _⟩ => exact Fin.ext (by show 0 + 1 * b.val = b.val; omega)
  | ⟨4, _⟩ => exact Fin.ext (by show 0 + 1 * d.val = d.val; omega)

omit [FloatOps F] in
/-- Transfer `x`, once landed: on its landing place the slot holds what `cmC` says. -/
theorem landed (x : X) (kv : Dev nD → (cc0_scratch0 : Ref sig .tc).ty.Contents (Elt F)) (c n : Dev nD) (hn : src x.1 n = c)
    (fd : (cc0_scratch1 : Ref sig .tc).ty.Contents (Elt F)) :
    ∀ i ∈ (cmM x).view.set, (cmM x).view.write (Elt F) fd ((kvM x.2).view.read (Elt F) (kv c)) Finset.univ i = cmC kv n i := by
  intro i hi
  obtain ⟨j, -, rfl⟩ := Finset.mem_map.mp hi
  rw [View.write_emb_of_mem _ _ (Finset.mem_univ j), View.read_apply]
  obtain ⟨a, b, d, rfl⟩ : ∃ (a : Fin 2) (b : Fin 1024) (d : Fin 256), j = ix3 a b d := ⟨j 0, j 1, j 2, by
    funext y
    match y with
    | ⟨0, _⟩ => rfl
    | ⟨1, _⟩ => rfl
    | ⟨2, _⟩ => rfl⟩
  rw [kvM_emb, cmM_emb]
  subst hn
  rfl

/-- After the store of piece `(ch, w)`, the elements of that piece hold it; -/
theorem stored_in (k v : Vec F S2048x256 .f32) (ch w : Fin 2) (f : (cc0_scratch0 : Ref sig .tc).ty.Contents (Elt F))
    (i : S2x2x1024x256.Idx) (h0 : (i 0 : Fin 2) = ch) (h1 : (i 1 : Fin 2) = w) :
    (kvB.access (kvE ch w) : View sig .tc _ _ _).write (Elt F) f (kvPiece k v ch w) Finset.univ i = kvC k v i := by
  have he : (kvB.access (kvE ch w) : View sig .tc _ _ _).emb (ix4 (0 : Fin 1) (0 : Fin 1) (i 2 : Fin 1024) (i 3 : Fin 256)) = i := by
    funext y
    match y with
    | ⟨0, _⟩ => exact Fin.ext (by show ch.val + 1 * 0 = (i 0).val; rw [← h0]; rfl)
    | ⟨1, _⟩ => exact Fin.ext (by show w.val + 1 * 0 = (i 1).val; rw [← h1]; rfl)
    | ⟨2, _⟩ => exact Fin.ext (by show 0 + 1 * (i 2).val = (i 2).val; omega)
    | ⟨3, _⟩ => exact Fin.ext (by show 0 + 1 * (i 3).val = (i 3).val; omega)
  have := View.write_emb_of_mem (v := (kvB.access (kvE ch w) : View sig .tc _ _ _)) (Val := Elt F) f (kvPiece k v ch w)
    (Finset.mem_univ (ix4 (0 : Fin 1) (0 : Fin 1) (i 2 : Fin 1024) (i 3 : Fin 256)))
  refine (congrArg _ he.symm).trans (this.trans ?_)
  unfold kvC
  rw [h0, h1]
  rfl

omit [FloatOps F] in
/-- and every other element is as before. -/
theorem stored_out (ch w : Fin 2) (p : Vec F S1x1x1024x256 .i8) (f : (cc0_scratch0 : Ref sig .tc).ty.Contents (Elt F))
    (i : S2x2x1024x256.Idx) (h : ¬ ((i 0 : Fin 2) = ch ∧ (i 1 : Fin 2) = w)) :
    (kvB.access (kvE ch w) : View sig .tc _ _ _).write (Elt F) f p Finset.univ i = f i := by
  refine View.write_of_not_mem _ _ _ fun hi => h ?_
  obtain ⟨j, -, rfl⟩ := Finset.mem_map.mp hi
  have j0 : (j 0).val < 1 := (j 0).isLt
  have j1 : (j 1).val < 1 := (j 1).isLt
  exact ⟨Fin.ext (by show ch.val + 1 * (j 0).val = ch.val; omega), Fin.ext (by show w.val + 1 * (j 1).val = w.val; omega)⟩

/-- The two stores of chunk `ch`, in program order: on the chunk they leave `kvC`. -/
theorem stored_both (k v : Vec F S2048x256 .f32) (ch : Fin 2) (f : (cc0_scratch0 : Ref sig .tc).ty.Contents (Elt F)) :
    ∀ i ∈ kvS ch, (kvB.access (kvE ch 1) : View sig .tc _ _ _).write (Elt F)
      ((kvB.access (kvE ch 0) : View sig .tc _ _ _).write (Elt F) f (kvPiece k v ch 0) Finset.univ) (kvPiece k v ch 1) Finset.univ i = kvC k v i := by
  intro i hi
  have h0 := mem_kvS.mp hi
  have hlt : (i 1).val < 2 := (i 1).isLt
  by_cases h1 : (i 1).val = 1
  · exact stored_in k v ch 1 _ i h0 (Fin.ext h1)
  · rw [stored_out ch 1 _ _ i fun h => h1 (congrArg Fin.val h.2)]
    exact stored_in k v ch 0 _ i h0 (Fin.ext (by show (i 1).val = 0; omega))

/-- Stores leave the other chunk alone. -/
theorem kvE_setOn (ch w : Fin 2) : (kvB.access (kvE ch w) : View sig .tc _ _ _).setOn Finset.univ ⊆ kvS ch := by
  intro i hi
  obtain ⟨j, -, rfl⟩ := Finset.mem_map.mp hi
  have j0 : (j 0).val < 1 := (j 0).isLt
  exact mem_kvS.mpr (Fin.ext (by show ch.val + 1 * (j 0).val = ch.val; omega))
theorem kvE_load (ch w : Fin 2) : (kvB.access (kvE ch w) : View sig .tc _ _ _).set ⊆ kvS ch := kvE_setOn ch w
theorem cmE_load (x : X) (w : Fin 2) : (cmB.access (cmE x w) : View sig .tc _ _ _).set ⊆ cmS x := by
  intro i hi
  obtain ⟨j, -, rfl⟩ := Finset.mem_map.mp hi
  have j0 : (j 0).val < 1 := (j 0).isLt
  have j1 : (j 1).val < 1 := (j 1).isLt
  exact mem_cmS.mpr ⟨Fin.ext (by show x.1.val + 1 * (j 0).val = x.1.val; omega), Fin.ext (by show x.2.val + 1 * (j 1).val = x.2.val; omega)⟩

/-- A load of piece `(ch, w)` from the finished chunk. -/
theorem read_kv (k v : Vec F S2048x256 .f32) (ch w : Fin 2) :
    kvB.view.readAt (Elt F) (kvE ch w).toLoadRect (kvC k v) = kvPiece k v ch w := by
  funext j
  have j0 : (j 0).val < 1 := (j 0).isLt
  have j1 : (j 1).val < 1 := (j 1).isLt
  show kvC k v ((kvE ch w).emb j) = _
  have e0 : ((kvE ch w).emb j 0 : Fin 2) = ch := Fin.ext (by show ch.val + 1 * (j 0).val = ch.val; omega)
  have e1 : ((kvE ch w).emb j 1 : Fin 2) = w := Fin.ext (by show w.val + 1 * (j 1).val = w.val; omega)
  unfold kvC
  rw [e0, e1]
  refine congrArg (kvPiece k v ch w) ?_
  funext y
  match y with
  | ⟨0, _⟩ => exact Fin.ext (by show 0 = (j 0).val; omega)
  | ⟨1, _⟩ => exact Fin.ext (by show 0 = (j 1).val; omega)
  | ⟨2, _⟩ => exact Fin.ext (by show 0 + 1 * (j 2).val = (j 2).val; omega)
  | ⟨3, _⟩ => exact Fin.ext (by show 0 + 1 * (j 3).val = (j 3).val; omega)

/-- A load of a landed piece: the sender's. -/
theorem read_cm (k v : Dev nD → Vec F S2048x256 .f32) (c : Dev nD) (x : X) (w : Fin 2) :
    cmB.view.readAt (Elt F) (cmE x w).toLoadRect (cmC (fun d => kvC (k d) (v d)) c)
      = cmPiece (kvPiece (k (src x.1 c)) (v (src x.1 c)) x.2 w) := by
  funext j
  have j0 : (j 0).val < 1 := (j 0).isLt
  have j1 : (j 1).val < 1 := (j 1).isLt
  have j2 : (j 2).val < 1 := (j 2).isLt
  show cmC (fun d => kvC (k d) (v d)) c ((cmE x w).emb j) = _
  have e0 : ((cmE x w).emb j 0 : Fin 3) = x.1 := Fin.ext (by show x.1.val + 1 * (j 0).val = x.1.val; omega)
  have e1 : ((cmE x w).emb j 1 : Fin 2) = x.2 := Fin.ext (by show x.2.val + 1 * (j 1).val = x.2.val; omega)
  have e2 : ((cmE x w).emb j 2 : Fin 2) = w := Fin.ext (by show w.val + 1 * (j 2).val = w.val; omega)
  have e3 : ((cmE x w).emb j 3 : Fin 1024) = (j 3 : Fin 1024) := Fin.ext (by show 0 + 1 * (j 3).val = (j 3).val; omega)
  have e4 : ((cmE x w).emb j 4 : Fin 256) = (j 4 : Fin 256) := Fin.ext (by show 0 + 1 * (j 4).val = (j 4).val; omega)
  unfold cmC
  rw [e0, e1, e2, e3, e4]
  rfl

omit [FloatOps F] in
/-- A load of half a staged block. -/
theorem read_q (h : Fin 2) (f : Vec F S2048x256 .f32) :
    qB.view.readAt (Elt F) (rowE h).toLoadRect f = half h f := by
  funext j
  show f ((rowE h).emb j) = _
  unfold half
  refine congrArg f ?_
  funext y
  match y with
  | ⟨0, _⟩ => exact Fin.ext (by show 1024 * h.val + 1 * (j 0).val = 1024 * h.val + (j 0).val; omega)
  | ⟨1, _⟩ => exact Fin.ext (by show 0 + 1 * (j 1).val = (j 1).val; omega)

omit [FloatOps F] in
theorem read_k (h : Fin 2) (f : Vec F S2048x256 .f32) : kB.view.readAt (Elt F) (rowE h).toLoadRect f = half h f := read_q h f
omit [FloatOps F] in
theorem read_v (h : Fin 2) (f : Vec F S2048x256 .f32) : vB.view.readAt (Elt F) (rowE h).toLoadRect f = half h f := read_q h f

/-- Two blocks of 1024 rows, one above the other. -/
def stack (a b : Vec F S1024x256 .f32) : Vec F S2048x256 .f32 :=
  fun i => if h : (i 0).val < 1024 then a (ix2 ⟨(i 0).val, h⟩ (i 1 : Fin 256))
    else b (ix2 ⟨(i 0).val - 1024, by have hi : (i 0).val < 2048 := (i 0).isLt; omega⟩ (i 1 : Fin 256))

omit [FloatOps F] in
/-- The two stores of the result leave the two halves stacked. -/
theorem write_o (f : (cc0_stg3_0 : Ref sig .tc).ty.Contents (Elt F)) (a b : Vec F S1024x256 .f32) :
    (oB.access (rowE 1) : View sig .tc _ _ _).write (Elt F) ((oB.access (rowE 0) : View sig .tc _ _ _).write (Elt F) f a Finset.univ) b Finset.univ
      = stack a b := by
  funext i
  have hlt : (i 0).val < 2048 := (i 0).isLt
  have put (h : Fin 2) (g : (cc0_stg3_0 : Ref sig .tc).ty.Contents (Elt F)) (p : Vec F S1024x256 .f32) (r : Fin 1024) (hr : (i 0).val = 1024 * h.val + r.val) :
      (oB.access (rowE h) : View sig .tc _ _ _).write (Elt F) g p Finset.univ i = p (ix2 r (i 1 : Fin 256)) := by
    have he : (oB.access (rowE h) : View sig .tc _ _ _).emb (ix2 r (i 1 : Fin 256)) = i := by
      funext y
      match y with
      | ⟨0, _⟩ => exact Fin.ext (by show 1024 * h.val + 1 * r.val = (i 0).val; omega)
      | ⟨1, _⟩ => exact Fin.ext (by show 0 + 1 * (i 1).val = (i 1).val; omega)
    exact (congrArg _ he.symm).trans (View.write_emb_of_mem (v := (oB.access (rowE h) : View sig .tc _ _ _)) (Val := Elt F) g p
      (Finset.mem_univ (ix2 r (i 1 : Fin 256))))
  unfold stack
  by_cases h : (i 0).val < 1024
  · rw [dif_pos h]
    refine (View.write_of_not_mem _ _ _ fun hi => ?_).trans (put 0 f a ⟨(i 0).val, h⟩ (by show (i 0).val = 1024 * 0 + (i 0).val; omega))
    obtain ⟨j, -, rfl⟩ := Finset.mem_map.mp hi
    have h' : 1024 * 1 + 1 * (j 0).val < 1024 := h
    omega
  · rw [dif_neg h]
    exact put 1 _ b ⟨(i 0).val - 1024, by omega⟩ (by show (i 0).val = 1024 * 1 + ((i 0).val - 1024); omega)

end Cert.GatherProof

end
-- ==== Proof.Sched.lean ====
/- The protocol: which semaphore cells the kernel uses, what each payment of them hands over, what each device owes at
   launch, and the order on cells that makes every wait safe.

   A device first tells the three others it is in the kernel, handing each the right to write one of its landing slots;
   it waits for their three signals, then sends its own quantised chunks, each to the slot it was given. A chunk's
   transfer reports twice: at the sender (the chunk may be reused) and at the receiver (the slot is filled). -/
module

public import proofs.«01_k».proof.Proof.Layout
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's, whose duties are numbered by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

/-- A cell of a device: its barrier (`none`), the sending side of a transfer (`false`), the receiving side (`true`). -/
abbrev CK : Type := Option (Bool × X)

abbrev barS : Sem sig := (SemArray.scalar (sig.barrier 0 rfl) : Sems sig S_).sem
def sendS (x : X) : DmaSem sig := ⟨4 + 2 * x.1.val + x.2.val, by show _ < 16; have := x.1.isLt; have := x.2.isLt; omega⟩
def recvS (x : X) : DmaSem sig := ⟨10 + 2 * x.1.val + x.2.val, by show _ < 16; have := x.1.isLt; have := x.2.isLt; omega⟩

def csem : CK → SemLoc sig
  | none => .reg barS
  | some (false, x) => .dma (sendS x)
  | some (true, x) => .dma (recvS x)

/-- The transfer a number below six names. -/
def xOf (n : ℕ) : X := (⟨n / 2 % 3, Nat.mod_lt _ (by decide)⟩, ⟨n % 2, Nat.mod_lt _ (by decide)⟩)

/-- Which of the protocol's cells a semaphore is, if any. -/
def dec : SemLoc sig → Option CK
  | .reg _ => some none
  | .dma q => if q.val < 4 then none else if q.val < 10 then some (some (false, xOf (q.val - 4))) else some (some (true, xOf (q.val - 10)))

theorem dec_csem (k : CK) : dec (csem k) = some k := by revert k; decide
/-- Different counters are different semaphores. -/
theorem csem_injective : Function.Injective csem := fun a b h => Option.some_injective _ (by rw [← dec_csem a, ← dec_csem b, h])

abbrev kcell (ck : Dev nD × CK) : GSem nD τ sig := ((ck.1 : Thread nD τ), csem ck.2)
abbrev barCell (c : Dev nD) : GSem nD τ sig := kcell (c, none)
abbrev sendCell (c : Dev nD) (x : X) : GSem nD τ sig := kcell (c, some (false, x))
abbrev recvCell (c : Dev nD) (x : X) : GSem nD τ sig := kcell (c, some (true, x))

/-- Different counters of the mesh are different cells. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

abbrev N : ℕ := (cmM (0, 0)).view.dmaCredit
theorem N_pos : 0 < N := View.dmaCredit_pos _ (by decide)
theorem N_cm (x : X) : (cmM x).view.dmaCredit = N := rfl
theorem N_kv (ch : Fin 2) : (kvM ch).view.dmaCredit = N := rfl

/-! ## What the devices hold -/

/-- Device `c`'s staged blocks of the three arguments. -/
def qst (c : Dev nD) : Vec F S2048x256 .f32 := (win0_0.blk (0 : Fin 1)).view.read (Elt F) ((s₀ m ρ).mem ((c : Thread nD τ).loc main_arg0))
def kst (c : Dev nD) : Vec F S2048x256 .f32 := (win0_1.blk (0 : Fin 1)).view.read (Elt F) ((s₀ m ρ).mem ((c : Thread nD τ).loc main_arg1))
def vst (c : Dev nD) : Vec F S2048x256 .f32 := (win0_2.blk (0 : Fin 1)).view.read (Elt F) ((s₀ m ρ).mem ((c : Thread nD τ).loc main_arg2))

/-- Its quantised keys and values, and what lands in its slots. -/
def kvAt (c : Dev nD) : (cc0_scratch0 : Ref sig .tc).ty.Contents (Elt F) := kvC (kst m ρ c) (vst m ρ c)
def cmAt (c : Dev nD) : (cc0_scratch1 : Ref sig .tc).ty.Contents (Elt F) := cmC (fun d => kvC (kst m ρ d) (vst m ρ d)) c

/-- Chunk `ch` of device `c` at share `q`. -/
def kvPts (c : Dev nD) (ch : Fin 2) (q : PosShare TreeShare) (f : Buf (Elt F) ((kvM ch).view.loc (c : Thread nD τ))) : sProp 𝕄 :=
  (kvM ch).view.loc (c : Thread nD τ) ↦[(kvM ch).view.set]{q} f
/-- The landing place of `x` on device `c`. -/
def cmPts (c : Dev nD) (x : X) (f : Buf (Elt F) ((cmM x).view.loc (c : Thread nD τ))) : sProp 𝕄 :=
  (cmM x).view.loc (c : Thread nD τ) ↦[(cmM x).view.set]{fullShare} f

omit [FloatOps F] in
instance kvPts_storable (c : Dev nD) (ch q f) : BI.Storable (upEmb : UEmb _ 𝕄) (kvPts (F := F) c ch q f) := by unfold kvPts; infer_instance
omit [FloatOps F] in
instance cmPts_storable (c : Dev nD) (x f) : BI.Storable (upEmb : UEmb _ 𝕄) (cmPts (F := F) c x f) := by unfold cmPts; infer_instance

/-- The share of the chunk a transfer to slot `j` reads through: two are in flight while the device itself reads; the
    third goes when nothing else holds the chunk. -/
def shr : Fin 3 → PosShare TreeShare
  | 0 => fullShare.left
  | 1 => fullShare
  | 2 => fullShare.right.left
/-- The share the device keeps for its own loads meanwhile. -/
def shrK : PosShare TreeShare := fullShare.right.right

/-! ## The schedule -/

/-- The device's signal to `src j`: both landing places of its slot `j`. -/
def barPay (c : Dev nD) (j : Fin 3) : sProp 𝕄 := iprop((∃ f, cmPts (tgt j c) (j, 0) f) ∗ (∃ f, cmPts (tgt j c) (j, 1) f))
def sendPay (c : Dev nD) (x : X) : sProp 𝕄 := kvPts c x.2 (shr x.1) (kvAt m ρ c)
def recvPay (c : Dev nD) (x : X) : sProp 𝕄 := cmPts c x (cmAt m ρ c)

def dutiesOf : Option CK → Finset (Fin 3)
  | none => ∅
  | some none => Finset.univ
  | some (some _) => {0}
def amountOf : Option CK → ℕ
  | some none => 1
  | _ => N
def payOf (c : Dev nD) (d : Fin 3) : Option CK → sProp 𝕄
  | none => iprop(emp)
  | some none => barPay c d
  | some (some (false, x)) => sendPay m ρ c x
  | some (some (true, x)) => recvPay m ρ c x

/-- One round: a barrier cell has three duties of one unit, a transfer's cell one duty of the chunk's credit. -/
def rd : Rounds.Schedule (GSem nD τ sig) (Fin 3) 𝕄 where
  duties g r := if g.1.2 = .tc ∧ r = 0 then dutiesOf (dec g.2) else ∅
  unitless _ := False
  amount g _ _ := amountOf (dec g.2)
  payload g _ d := payOf m ρ g.1.1 d (dec g.2)
  amount_pos g _ _ _ := by
    cases dec g.2 with
    | none => exact N_pos
    | some k => cases k with
      | none => exact Nat.one_pos
      | some y => exact N_pos

instance rd_payload_storable (g : GSem nD τ sig) (r : ℕ) (d : Fin 3) :
    BI.Storable (upEmb : UEmb _ 𝕄) ((rd (F := F) m ρ).payload g r d) := by
  show BI.Storable upEmb (payOf m ρ g.1.1 d (dec g.2))
  cases dec g.2 with
  | none => unfold payOf; infer_instance
  | some k => cases k with
    | none => unfold payOf barPay; infer_instance
    | some y => obtain ⟨b, x⟩ := y; cases b <;> (unfold payOf; first | (unfold sendPay; infer_instance) | (unfold recvPay; infer_instance))

section Sched
variable (c : Dev nD)

theorem duties_later (g : GSem nD τ sig) : ∀ r, 1 ≤ r → (rd (F := F) m ρ).duties g r = ∅ :=
  fun r hr => by dsimp only [rd]; rw [if_neg fun h => by omega]
theorem duties_k (k : CK) : (rd (F := F) m ρ).duties (kcell (c, k)) 0 = dutiesOf (some k) := by
  show (if ((c : Thread nD τ).2 = .tc ∧ (0 : ℕ) = 0) then dutiesOf (dec (csem k)) else ∅) = _; rw [if_pos ⟨rfl, rfl⟩, dec_csem]
theorem amount_k (k : CK) (d : Fin 3) : (rd (F := F) m ρ).amount (kcell (c, k)) 0 d = amountOf (some k) := by
  show amountOf (dec (csem k)) = _; rw [dec_csem]
theorem payload_k (k : CK) (d : Fin 3) : (rd (F := F) m ρ).payload (kcell (c, k)) 0 d = payOf m ρ c d (some k) := by
  show payOf m ρ c d (dec (csem k)) = _; rw [dec_csem]
theorem mem_bar (j : Fin 3) : j ∈ (rd (F := F) m ρ).duties (barCell c) 0 := by rw [duties_k]; exact Finset.mem_univ _
theorem mem_x (y : Bool × X) : (0 : Fin 3) ∈ (rd (F := F) m ρ).duties (kcell (c, some y)) 0 := by rw [duties_k]; exact Finset.mem_singleton_self _
theorem expect_bar : (rd (F := F) m ρ).expect (barCell c) 0 = 3 := by
  unfold Schedule.expect Schedule.amountOf
  rw [duties_k, Finset.sum_congr rfl fun d _ => amount_k m ρ c none d]; rfl
theorem expect_x (y : Bool × X) : (rd (F := F) m ρ).expect (kcell (c, some y)) 0 = N := by
  unfold Schedule.expect Schedule.amountOf
  rw [duties_k]; show Finset.sum {0} _ = _; rw [Finset.sum_singleton, amount_k]; rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_X (Φ : X → sProp 𝕄) : bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

/-- Everything a barrier cell's round hands over: one slot on each other device. -/
theorem rest_bar : bigSep ((rd (F := F) m ρ).duties (barCell c) 0 \ ∅) (fun d => (rd (F := F) m ρ).payload (barCell c) 0 d)
    = iprop(barPay c 0 ∗ barPay c 1 ∗ barPay c 2) := by
  rw [Finset.sdiff_empty, duties_k, bigSep_congr fun d _ => payload_k m ρ c none d]
  exact bigSep_fin3 _
theorem rest_send (x : X) : bigSep ((rd (F := F) m ρ).duties (sendCell c x) 0 \ ∅) (fun d => (rd (F := F) m ρ).payload (sendCell c x) 0 d) = sendPay m ρ c x := by
  rw [Finset.sdiff_empty, duties_k, bigSep_congr fun d _ => payload_k m ρ c _ d]
  exact bigSep_singleton
theorem rest_recv (x : X) : bigSep ((rd (F := F) m ρ).duties (recvCell c x) 0 \ ∅) (fun d => (rd (F := F) m ρ).payload (recvCell c x) 0 d) = recvPay m ρ c x := by
  rw [Finset.sdiff_empty, duties_k, bigSep_congr fun d _ => payload_k m ρ c _ d]
  exact bigSep_singleton

end Sched

/-! ## What each device owes; the levels -/

/-- A payment a device makes: the signal to `src j`, or transfer `x`'s arrival. -/
abbrev Pay : Type := Fin 3 ⊕ X
def payCell (c : Dev nD) : Pay → GSem nD τ sig
  | .inl j => barCell (src j c)
  | .inr x => recvCell (tgt x.1 c) x
def payAmt : Pay → ℕ
  | .inl _ => 1
  | .inr _ => N
def payLv : Pay → ℕ
  | .inl _ => 1
  | .inr _ => 2

/-- What is owed while the listed payments are outstanding. -/
def owedL (c : Dev nD) : List Pay → CellTallies nD τ sig Unit
  | [] => 0
  | p :: l => owedL c l + tallyAt (payCell c p) () (payAmt p)

/-- The payments in program order. -/
def allPays : List Pay := [.inl 0, .inl 1, .inl 2, .inr (0, 0), .inr (2, 0), .inr (0, 1), .inr (2, 1), .inr (1, 0), .inr (1, 1)]
def O₀ (c : Dev nD) : CellTallies nD τ sig Unit := owedL c allPays

def L (g : GSem nD τ sig) : Finset Unit := if g.1.2 = .tc then {()} else ∅
def lvOf : Option CK → ℕ
  | some none => 1
  | some (some (true, _)) => 2
  | _ => 0
/-- Barrier cells at 1, receiving cells at 2, every other (the pipeline's, the sending side) at 0. -/
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl

theorem lv_pay (c : Dev nD) (p : Pay) (u : Unit) : lv (payCell c p) u = payLv p := by
  cases p with
  | inl j => show lvOf (dec (csem none)) = 1; rw [dec_csem]; rfl
  | inr x => show lvOf (dec (csem (some (true, x)))) = 2; rw [dec_csem]; rfl
theorem L_pay (c : Dev nD) (p : Pay) : L (payCell c p) = {()} := by cases p <;> exact if_pos rfl

theorem owedL_pos {c : Dev nD} {l : List Pay} {g : GSem nD τ sig} {u : Unit} (h : 0 < owedL c l g u) : ∃ p ∈ l, g = payCell c p := by
  induction l with
  | nil => exact absurd h (Nat.lt_irrefl 0)
  | cons p l ih =>
    by_cases hg : g = payCell c p
    · exact ⟨p, List.mem_cons_self, hg⟩
    · have h' : 0 < owedL c l g u + tallyAt (payCell c p) () (payAmt p) g u := h
      rw [tallyAt_apply, if_neg fun e => hg e.1, Nat.add_zero] at h'
      obtain ⟨p', hp, e⟩ := ih h'
      exact ⟨p', List.mem_cons_of_mem _ hp, e⟩

omit [FloatOps F] in
/-- A wait is safe when everything still owed lies above the cell waited on. -/
theorem mayWait (c : Dev nD) (sm : SemLoc sig) (l : List Pay) (b : ℕ) (hsm : lv ((c : Thread nD τ), sm) () ≤ b) (hl : ∀ p ∈ l, b < payLv p) :
    (levAts L lv : sProp 𝕄) ⊢ MayWait (c : Thread nD τ) sm () (owedL c l) :=
  MayOwe.of_cut (L := L) (lev := lv) b (fun p hp => by rw [Finset.mem_singleton.mp hp, L_tc]; exact Finset.mem_singleton_self _)
    (fun g u hg => by obtain ⟨p, -, rfl⟩ := owedL_pos hg; rw [L_pay]; exact Finset.mem_singleton_self _)
    (fun p hp => by rw [Finset.mem_singleton.mp hp]; exact hsm)
    (fun g u hg => by obtain ⟨p, hp, rfl⟩ := owedL_pos hg; rw [lv_pay]; exact hl p hp)

/-! ## The ghost state of a device -/

/-- Every cell's invariant, under the names `K` it was allocated at, and that it stands at round 0. -/
def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

instance records_persistent (K : Dev nD × CK → ℕ) : BI.Persistent (records m ρ K) := by unfold records; infer_instance

theorem rec_inv (K : Dev nD × CK → ℕ) (ck : Dev nD × CK) : records m ρ K ⊢ cellInv ER (rd m ρ) (K ck) (kcell ck) := by
  unfold records
  exact sep_elim_left.trans (bigSep_elim (Finset.mem_univ ck))
theorem rec_reached (K : Dev nD × CK → ℕ) (ck : Dev nD × CK) : records m ρ K ⊢ reached ER (kcell ck) 0 := by
  unfold records
  exact sep_elim_right.trans (bigSep_elim (Finset.mem_univ ck))

/-- The positions at the device's own cells. -/
def poss (c : Dev nD) : sProp 𝕄 :=
  iprop(atPos ER (barCell c) 0 ∅ 0 ∗ (bigSep Finset.univ fun x : X => atPos ER (sendCell c x) 0 ∅ 0) ∗ (bigSep Finset.univ fun x : X => atPos ER (recvCell c x) 0 ∅ 0))
/-- The tokens of the payments the device makes. -/
def payToks (c : Dev nD) : sProp 𝕄 :=
  iprop((bigSep Finset.univ fun j : Fin 3 => dutyTok ER (barCell (src j c)) 0 j)
    ∗ (bigSep Finset.univ fun x : X => dutyTok ER (sendCell c x) 0 0) ∗ (bigSep Finset.univ fun x : X => dutyTok ER (recvCell (tgt x.1 c) x) 0 0))
def linear (c : Dev nD) : sProp 𝕄 := iprop(poss c ∗ payToks c)
/-- The credit the device's waits for others draw on. -/
def credits (c : Dev nD) : sProp 𝕄 :=
  iprop(cred (tallyAt (barCell c) () 3) ∗ bigSep Finset.univ fun x : X => cred (tallyAt (recvCell c x) () N))

def start (c : Dev nD) : sProp 𝕄 := iprop((∃ K, records m ρ K ∗ linear c) ∗ credits c ∗ levAts L lv)

abbrev kvWhole (c : Dev nD) (f : Buf (Elt F) ((c : Thread nD τ).loc cc0_scratch0)) : sProp 𝕄 := ((c : Thread nD τ).loc cc0_scratch0) ↦{fullShare} f
abbrev cmWhole (c : Dev nD) (f : Buf (Elt F) ((c : Thread nD τ).loc cc0_scratch1)) : sProp 𝕄 := ((c : Thread nD τ).loc cc0_scratch1) ↦{fullShare} f

/-- Every cell of the device closed, its counter at zero. -/
def zeros (c : Dev nD) : sProp 𝕄 :=
  iprop(semVal (barCell c) 0 ∗ (bigSep Finset.univ fun x : X => semVal (sendCell c x) 0) ∗ (bigSep Finset.univ fun x : X => semVal (recvCell c x) 0))

def Φ₀ (c : Dev nD) : sProp 𝕄 := iprop(start m ρ c ∗ (∃ f, kvWhole c f) ∗ (∃ f, cmWhole c f))
def Φ₁ (c : Dev nD) : sProp 𝕄 := iprop(kvWhole c (kvAt m ρ c) ∗ cmWhole c (cmAt m ρ c) ∗ zeros c)

omit [FloatOps F] in
/-- The chunks are the whole buffer; -/
theorem kv_split (c : Dev nD) (q : PosShare TreeShare) (f : Buf (Elt F) ((c : Thread nD τ).loc cc0_scratch0)) :
    ((((c : Thread nD τ).loc cc0_scratch0) ↦{q} f) : sProp 𝕄) = iprop(kvPts c 0 q f ∗ kvPts c 1 q f) := by
  rw [← kvS_univ, pointsTo_biUnion _ _ fun a _ b _ h => kvS_disj a b h]
  rw [bigSep_univ_eq_bigSepL [(0 : Fin 2), 1] (by decide) (by decide), bigSepL_cons_cons, bigSepL_singleton]
  unfold kvPts
  rw [kvM_set, kvM_set]
  rfl
omit [FloatOps F] in
/-- the landing places are the whole landing buffer. -/
theorem cm_split (c : Dev nD) (f : Buf (Elt F) ((c : Thread nD τ).loc cc0_scratch1)) :
    (cmWhole c f : sProp 𝕄) = bigSep Finset.univ fun x : X => cmPts c x f := by
  unfold cmWhole
  rw [← cmS_univ, pointsTo_biUnion _ _ fun a _ b _ h => cmS_disj a b h]
  refine bigSep_congr fun x _ => ?_
  unfold cmPts
  rw [cmM_set]

end Cert.GatherProof

end
-- ==== Proof.Vals.lean ====
/- The values the kernel's body computes, named: what it loads (`Inp`), the two running sums (the weights' and the
   weighted values') of each half of the query rows after each block of keys, and the two halves of the result. Their
   numbering is the generated skeleton's. -/
module

public import proofs.«01_k».proof.Proof.Layout

@[expose] public section

noncomputable section

namespace Cert.GatherProof

open Cert.KernelIdeal Cert.KernelIdeal.Gen
open Idealize.ShloMosaic

variable {F : FTy → Type} [FloatOps F]

/-- What a device loads: its block of queries, its own quantised blocks, and the ones received. -/
structure Inp (F : FTy → Type) where
  q : Vec F S2048x256 .f32
  own : Fin 2 → Fin 2 → Vec F S1x1x1024x256 .i8
  got : X → Fin 2 → Vec F S1x1x1x1024x256 .i8

variable (I : Inp F)

/-! The two halves of the queries, scaled -/
def V120 : FVec F S1024x256 .bf16 := k0_pay7 (half 0 I.q)
def V125 : FVec F S1024x256 .bf16 := k0_pay8 (half 1 I.q)
/-! The device's own first block of keys -/
def V135 : FVec F S1024x256 .f32 := k0_pay12 (half 0 I.q) (I.own 0 0) (I.own 0 1)
def V137 : FVec F S1024x1 .f32 := k0_pay13 (half 0 I.q) (I.own 0 0)
def V141 : FVec F S1024x256 .f32 := k0_pay15 (half 1 I.q) (I.own 0 0) (I.own 0 1)
def V143 : FVec F S1024x1 .f32 := k0_pay16 (half 1 I.q) (I.own 0 0)
/-! Its second -/
def V156 : FVec F S1024x1 .f32 := k0_pay20 (V120 I) (V137 I) (I.own 1 0)
def V157 : FVec F S1024x256 .f32 := k0_pay21 (V120 I) (V135 I) (I.own 1 0) (I.own 1 1)
def V164 : FVec F S1024x1 .f32 := k0_pay23 (V125 I) (V143 I) (I.own 1 0)
def V165 : FVec F S1024x256 .f32 := k0_pay24 (V125 I) (V141 I) (I.own 1 0) (I.own 1 1)
/-! Slot 0, first block -/
def V234 : FVec F S1024x1 .f32 := k0_pay28 (V120 I) (V156 I) (I.got (0, 0) 0)
def V235 : FVec F S1024x256 .f32 := k0_pay29 (V120 I) (V157 I) (I.got (0, 0) 0) (I.got (0, 0) 1)
def V239 : FVec F S1024x256 .f32 := k0_pay31 (V125 I) (I.got (0, 0) 0) (I.got (0, 0) 1)
def V241 : FVec F S1024x1 .f32 := k0_pay32 (V125 I) (I.got (0, 0) 0)
/-! Slot 2, first block -/
def V242 : FVec F S1024x1 .f32 := k0_pay33 (V164 I) (V241 I)
def V243 : FVec F S1024x256 .f32 := k0_pay34 (V165 I) (V239 I)
def V264 : FVec F S1024x1 .f32 := k0_pay38 (V120 I) (V234 I) (I.got (2, 0) 0)
def V265 : FVec F S1024x256 .f32 := k0_pay39 (V120 I) (V235 I) (I.got (2, 0) 0) (I.got (2, 0) 1)
def V267 : FVec F S1024x1024 .f32 := k0_pay40 (V125 I) (I.got (2, 0) 0)
def V269 : FVec F S1024x256 .f32 := k0_pay41 (V125 I) (I.got (2, 0) 0) (I.got (2, 0) 1)
/-! Slot 0, second block -/
def V272 : FVec F S1024x1 .f32 := k0_pay42 (V242 I) (V267 I)
def V273 : FVec F S1024x256 .f32 := k0_pay43 (V243 I) (V269 I)
def V287 : FVec F S1024x256 .bf16 := k0_pay45 (I.got (0, 1) 1)
def V294 : FVec F S1024x1 .f32 := k0_pay47 (V120 I) (V264 I) (I.got (0, 1) 0)
def V295 : FVec F S1024x256 .f32 := k0_pay48 (V120 I) (V265 I) (I.got (0, 1) 0) (I.got (0, 1) 1)
def V297 : FVec F S1024x1024 .f32 := k0_pay49 (V125 I) (I.got (0, 1) 0)
def V298 : FVec F S1024x1024 .bf16 := k0_pay50 (V125 I) (I.got (0, 1) 0)
/-! Slot 2, second block -/
def V302 : FVec F S1024x1 .f32 := k0_pay51 (V272 I) (V297 I)
def V303 : FVec F S1024x256 .f32 := k0_pay52 (V273 I) (V287 I) (V298 I) (constant S1024x256 .f32 0x00000000#32)
def V317 : FVec F S1024x256 .bf16 := k0_pay54 (I.got (2, 1) 1)
def V324 : FVec F S1024x1 .f32 := k0_pay56 (V120 I) (V294 I) (I.got (2, 1) 0)
def V325 : FVec F S1024x256 .f32 := k0_pay57 (V120 I) (V295 I) (I.got (2, 1) 0) (I.got (2, 1) 1)
def V327 : FVec F S1024x1024 .f32 := k0_pay58 (V125 I) (I.got (2, 1) 0)
/-! Slot 1, first block -/
def V332 : FVec F S1024x1 .f32 := k0_pay59 (V302 I) (V327 I)
def V333 : FVec F S1024x256 .f32 := k0_pay60 (V303 I) (V317 I) (V327 I)
def V346 : FVec F S1024x256 .bf16 := k0_pay61 (I.got (1, 0) 0)
def V347 : FVec F S1024x256 .bf16 := k0_pay62 (I.got (1, 0) 1)
def V354 : FVec F S1024x1 .f32 := k0_pay64 (V120 I) (V324 I) (I.got (1, 0) 0)
def V355 : FVec F S1024x256 .f32 := k0_pay65 (V120 I) (V325 I) (I.got (1, 0) 0) (I.got (1, 0) 1)
/-! Slot 1, second block -/
def V362 : FVec F S1024x1 .f32 := k0_pay67 (V125 I) (V332 I) (V346 I) (constant S1024x1024 .f32 0x00000000#32)
def V363 : FVec F S1024x256 .f32 := k0_pay68 (V125 I) (V333 I) (V346 I) (V347 I) (constant S1024x1024 .f32 0x00000000#32)
def V376 : FVec F S1024x256 .bf16 := k0_pay69 (I.got (1, 1) 0)
def V377 : FVec F S1024x256 .bf16 := k0_pay70 (I.got (1, 1) 1)
def V381 : FVec F S1024x256 .f32 := k0_pay72 (V120 I) (I.got (1, 1) 0) (I.got (1, 1) 1)
def V384 : FVec F S1024x1 .f32 := k0_pay73 (V120 I) (V354 I) (I.got (1, 1) 0)
/-! The two halves of the result -/
def Out0 : FVec F S1024x256 .f32 := k0_pay74 (V355 I) (V381 I) (V384 I)
def Out1 : FVec F S1024x256 .f32 := k0_pay75 (V125 I) (V362 I) (V363 I) (V376 I) (V377 I)

/-- The block of the result the body stores. -/
def result : Vec F S2048x256 .f32 := stack (Out0 I) (Out1 I)

end Cert.GatherProof

end
-- ==== Proof.Step.lean ====
/- One rule per kind of step the body takes: each says what a device must hold before an instruction and what it holds
   after, in the protocol's terms. The body's proof strings these together. -/
module

public import proofs.«01_k».proof.Proof.Sched
public import proofs.«01_k».proof.Proof.Vals

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

abbrev 𝒱₀ : Variants := Variants.none

/-- Device `c` may run `p`, ending in `Q`. -/
abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` still owes: the listed payments, whatever it has waited for. -/
def ow (l : List Pay) : sProp 𝕄 := iprop(∃ W, owes (c : Thread nD τ) (owedL c l) W)

/-- What device `c` loads. -/
def inp : Inp F where
  q := qst m ρ c
  own := kvPiece (kst m ρ c) (vst m ρ c)
  got x w := cmPiece (kvPiece (kst m ρ (src x.1 c)) (vst m ρ (src x.1 c)) x.2 w)

/-! ## Loads and stores -/

section Mem

/-- A staging buffer of device `c`, holding `X`. -/
abbrev stgPts (b : Ref sig .tc) (X : Buf (Elt F) ((c : Thread nD τ).loc b)) : sProp 𝕄 := ((c : Thread nD τ).loc b) ↦{fullShare} X

theorem load_q {α : Type} {Q : α → sProp 𝕄} (h : Fin 2) (X : Vec F S2048x256 .f32) {hl : (qB : Memref sig .tc .vmem S2048x256 .f32).view.LoadsAt (rowE h).toLoadRect}
    {k : Vec F S1024x256 .f32 → Prog (TpuEff nD τ sig (Elt F) Λ₀ .tc) α} :
    stgPts c cc0_stg0_0 X ⊢ iprop((stgPts c cc0_stg0_0 X -∗ run c (k (half h X)) Q) -∗ run c (.op (.load qB (rowE h).toLoadRect hl) k) Q) := by
  rw [← read_q]; exact wp_load 𝒱₀ (c : Thread nD τ) none Set.univ (m := qB) (Finset.subset_univ _)
theorem load_k {α : Type} {Q : α → sProp 𝕄} (h : Fin 2) (X : Vec F S2048x256 .f32) {hl : (kB : Memref sig .tc .vmem S2048x256 .f32).view.LoadsAt (rowE h).toLoadRect}
    {k : Vec F S1024x256 .f32 → Prog (TpuEff nD τ sig (Elt F) Λ₀ .tc) α} :
    stgPts c cc0_stg1_0 X ⊢ iprop((stgPts c cc0_stg1_0 X -∗ run c (k (half h X)) Q) -∗ run c (.op (.load kB (rowE h).toLoadRect hl) k) Q) := by
  rw [← read_k]; exact wp_load 𝒱₀ (c : Thread nD τ) none Set.univ (m := kB) (Finset.subset_univ _)
theorem load_v {α : Type} {Q : α → sProp 𝕄} (h : Fin 2) (X : Vec F S2048x256 .f32) {hl : (vB : Memref sig .tc .vmem S2048x256 .f32).view.LoadsAt (rowE h).toLoadRect}
    {k : Vec F S1024x256 .f32 → Prog (TpuEff nD τ sig (Elt F) Λ₀ .tc) α} :
    stgPts c cc0_stg2_0 X ⊢ iprop((stgPts c cc0_stg2_0 X -∗ run c (k (half h X)) Q) -∗ run c (.op (.load vB (rowE h).toLoadRect hl) k) Q) := by
  rw [← read_v]; exact wp_load 𝒱₀ (c : Thread nD τ) none Set.univ (m := vB) (Finset.subset_univ _)
/-- A load of the result buffer, whatever it holds. -/
theorem load_o {α : Type} {Q : α → sProp 𝕄} (h : Fin 2) (X : Vec F S2048x256 .f32) {hl : (oB : Memref sig .tc .vmem S2048x256 .f32).view.LoadsAt (rowE h).toLoadRect}
    {k : Vec F S1024x256 .f32 → Prog (TpuEff nD τ sig (Elt F) Λ₀ .tc) α} :
    stgPts c cc0_stg3_0 X ⊢ iprop((stgPts c cc0_stg3_0 X -∗ run c (k (oB.view.readAt (Elt F) (rowE h).toLoadRect X)) Q)
      -∗ run c (.op (.load oB (rowE h).toLoadRect hl) k) Q) :=
  wp_load 𝒱₀ (c : Thread nD τ) none Set.univ (m := oB) (Finset.subset_univ _)
theorem store_o {α : Type} {Q : α → sProp 𝕄} (h : Fin 2) (X : Vec F S2048x256 .f32) (p : Vec F S1024x256 .f32)
    {hx : (oB.access (rowE h) : View sig .tc _ _ _).Stores Finset.univ} {hm}
    {k : PUnit → Prog (TpuEff nD τ sig (Elt F) Λ₀ .tc) α} :
    stgPts c cc0_stg3_0 X ⊢ iprop((stgPts c cc0_stg3_0 ((oB.access (rowE h) : View sig .tc _ _ _).write (Elt F) X p Finset.univ) -∗ run c (k ⟨⟩) Q)
      -∗ run c (.op (.store oB (rowE h) p Finset.univ hx hm) k) Q) :=
  wp_store 𝒱₀ (c : Thread nD τ) none Set.univ (m := oB) (r := rowE h) (Mk := Finset.univ) (Finset.subset_univ _)

theorem kv_loc (ch w : Fin 2) : (kvB.access (kvE ch w) : View sig .tc _ _ _).setOn Finset.univ ⊆ (kvM ch).view.set := by
  rw [kvM_set]; exact kvE_setOn ch w

/-- A load of one block of a chunk, whatever it holds. -/
theorem load_kv_any {α : Type} {Q : α → sProp 𝕄} (ch w : Fin 2) (s : PosShare TreeShare) (f : (cc0_scratch0 : Ref sig .tc).ty.Contents (Elt F))
    {hl : (kvB : Memref sig .tc .vmem S2x2x1024x256 .i8).view.LoadsAt (kvE ch w).toLoadRect}
    {k : Vec F S1x1x1024x256 .i8 → Prog (TpuEff nD τ sig (Elt F) Λ₀ .tc) α} :
    kvPts c ch s f ⊢ iprop((kvPts c ch s f -∗ run c (k (kvB.view.readAt (Elt F) (kvE ch w).toLoadRect f)) Q)
      -∗ run c (.op (.load kvB (kvE ch w).toLoadRect hl) k) Q) := by
  unfold kvPts
  exact wp_load_rect 𝒱₀ (c : Thread nD τ) none Set.univ (m := kvB) (r := kvE ch w) (kv_loc ch w)
/-- A load of one block of a finished chunk. -/
theorem load_kv {α : Type} {Q : α → sProp 𝕄} (ch w : Fin 2) (s : PosShare TreeShare)
    {hl : (kvB : Memref sig .tc .vmem S2x2x1024x256 .i8).view.LoadsAt (kvE ch w).toLoadRect}
    {k : Vec F S1x1x1024x256 .i8 → Prog (TpuEff nD τ sig (Elt F) Λ₀ .tc) α} :
    kvPts c ch s (kvAt m ρ c) ⊢ iprop((kvPts c ch s (kvAt m ρ c) -∗ run c (k ((inp m ρ c).own ch w)) Q)
      -∗ run c (.op (.load kvB (kvE ch w).toLoadRect hl) k) Q) := by
  have h := load_kv_any (Q := Q) c ch w s (kvAt m ρ c) (hl := hl) (k := k)
  rw [show kvB.view.readAt (Elt F) (kvE ch w).toLoadRect (kvAt m ρ c) = (inp m ρ c).own ch w from read_kv _ _ ch w] at h
  exact h
/-- A store of one block of a chunk. -/
theorem store_kv {α : Type} {Q : α → sProp 𝕄} (ch w : Fin 2) (f : (cc0_scratch0 : Ref sig .tc).ty.Contents (Elt F)) (p : Vec F S1x1x1024x256 .i8)
    {hx : (kvB.access (kvE ch w) : View sig .tc _ _ _).Stores Finset.univ} {hm}
    {k : PUnit → Prog (TpuEff nD τ sig (Elt F) Λ₀ .tc) α} :
    kvPts c ch fullShare f
      ⊢ iprop((kvPts c ch fullShare ((kvB.access (kvE ch w) : View sig .tc _ _ _).write (Elt F) f p Finset.univ) -∗ run c (k ⟨⟩) Q)
        -∗ run c (.op (.store kvB (kvE ch w) p Finset.univ hx hm) k) Q) := by
  unfold kvPts
  exact wp_store 𝒱₀ (c : Thread nD τ) none Set.univ (m := kvB) (r := kvE ch w) (Mk := Finset.univ) (kv_loc ch w)
/-- A load of one block of a filled slot. -/
theorem load_cm {α : Type} {Q : α → sProp 𝕄} (x : X) (w : Fin 2)
    {hl : (cmB : Memref sig .tc .vmem S3x2x2x1024x256 .i8).view.LoadsAt (cmE x w).toLoadRect}
    {k : Vec F S1x1x1x1024x256 .i8 → Prog (TpuEff nD τ sig (Elt F) Λ₀ .tc) α} :
    cmPts c x (cmAt m ρ c) ⊢ iprop((cmPts c x (cmAt m ρ c) -∗ run c (k ((inp m ρ c).got x w)) Q)
      -∗ run c (.op (.load cmB (cmE x w).toLoadRect hl) k) Q) := by
  rw [show (inp m ρ c).got x w = cmB.view.readAt (Elt F) (cmE x w).toLoadRect (cmAt m ρ c) from (read_cm (kst m ρ) (vst m ρ) c x w).symm]
  unfold cmPts
  exact wp_load_rect 𝒱₀ (c : Thread nD τ) none Set.univ (m := cmB) (r := cmE x w) (by rw [cmM_set]; exact cmE_load x w)

end Mem

/-- After its two stores a chunk is finished. -/
theorem kv_stored (ch : Fin 2) (f : (cc0_scratch0 : Ref sig .tc).ty.Contents (Elt F)) :
    kvPts c ch fullShare ((kvB.access (kvE ch 1) : View sig .tc _ _ _).write (Elt F)
      ((kvB.access (kvE ch 0) : View sig .tc _ _ _).write (Elt F) f ((inp m ρ c).own ch 0) Finset.univ) ((inp m ρ c).own ch 1) Finset.univ)
      = kvPts c ch fullShare (kvAt m ρ c) := by
  unfold kvPts
  exact pointsTo_congr fun i hi => stored_both (kst m ρ c) (vst m ρ c) ch f i (by rw [← kvM_set]; exact hi)

omit [FloatOps F] in
/-- A finished chunk is dealt to the two transfers in flight and the device's own loads, -/
theorem kv_deal (ch : Fin 2) (f : Buf (Elt F) ((kvM ch).view.loc (c : Thread nD τ))) :
    kvPts c ch fullShare f ⊢ iprop(kvPts c ch (shr 0) f ∗ kvPts c ch (shr 2) f ∗ kvPts c ch shrK f) := by
  unfold kvPts
  exact (pointsTo_share (PosShare.mem_left_op_right fullShare)).1.trans
    (sep_mono_right (pointsTo_share (PosShare.mem_left_op_right fullShare.right)).1)
omit [FloatOps F] in
/-- and gathered again. -/
theorem kv_undeal (ch : Fin 2) (f : Buf (Elt F) ((kvM ch).view.loc (c : Thread nD τ))) :
    iprop(kvPts c ch (shr 0) f ∗ kvPts c ch (shr 2) f ∗ kvPts c ch shrK f) ⊢ kvPts c ch fullShare f := by
  unfold kvPts
  exact (sep_mono_right (pointsTo_share (PosShare.mem_left_op_right fullShare.right)).2).trans
    (pointsTo_share (PosShare.mem_left_op_right fullShare)).2

/-! ## Signals, transfers, waits -/

section Sync

/-- The signal to `src j c`, giving it the two landing places of slot `j`. -/
theorem signal_bar {α : Type} {Q : α → sProp 𝕄} (j : Fin 3) (n : Dev nD) (hn : n = src j c) (l : List Pay) {k : PUnit → Prog (TpuEff nD τ sig (Elt F) Λ₀ .tc) α} :
    iprop(records m ρ K ∗ ow c (.inl j :: l) ∗ dutyTok ER (barCell (src j c)) 0 j ∗ (∃ f, cmPts c (j, 0) f) ∗ (∃ f, cmPts c (j, 1) f))
      ⊢ iprop((ow c l -∗ run c (k ⟨⟩) Q) -∗ run c (.op (.semSignal (n : Thread nD τ) barS 1) k) Q) := by
  subst hn
  unfold ow
  iintro ⟨#HR, ⟨%W, HO⟩, Ht, H0, H1⟩ Hk
  iapply (Rounds.wp_signal 𝒱₀ ER (rd m ρ) (c : Thread nD τ) none (dst := (src j c : Thread nD τ)) (κ := K (src j c, none)) (r := 0)
      (d := j) (mem_bar m ρ (src j c) j) (amount_k m ρ (src j c) none j) () (owedL c l) rfl) $$ [HO Ht H0 H1]
  · isplitr; · iapply (rec_inv m ρ K (src j c, none)); iexact HR
    isplitl [HO]; · iexact HO
    isplitl [Ht]; · iexact Ht
    isplitl [H0 H1]
    · iapply (show payOf m ρ (src j c) j (some none) ⊢ (rd m ρ).payload ((src j c : Thread nD τ), .reg barS) 0 j from Entails.of_eq (payload_k m ρ (src j c) none j).symm)
      unfold payOf barPay
      rw [tgt_src]
      isplitl [H0]; · iexact H0
      iexact H1
    iapply (rec_reached m ρ K (src j c, none)); iexact HR
  iintro HO
  iapply Hk
  iexists W
  iexact HO

/-- The wait for the three signals: the other devices' slots this one fills, and the cell closed. -/
theorem wait_bar {α : Type} {Q : α → sProp 𝕄} (l : List Pay) (hl : ∀ p ∈ l, 1 < payLv p) {k : PUnit → Prog (TpuEff nD τ sig (Elt F) Λ₀ .tc) α} :
    iprop(records m ρ K ∗ levAts L lv ∗ cred (tallyAt (barCell c) () 3) ∗ ow c l ∗ atPos ER (barCell c) 0 ∅ 0)
      ⊢ iprop(((ow c l ∗ semVal (barCell c) 0 ∗ barPay c 0 ∗ barPay c 1 ∗ barPay c 2) -∗ run c (k ⟨⟩) Q)
        -∗ run c (.op (.semWait barS 3) k) Q) := by
  unfold ow
  iintro ⟨#HR, #Hl, Hc, ⟨%W, HO⟩, Hat⟩ Hk
  iapply (Rounds.wp_wait_rest_token 𝒱₀ ER (rd m ρ) (c : Thread nD τ) none (κ := K (c, none)) (sm := csem none)
      (wpE_semWait_eq 𝒱₀ (c : Thread nD τ) none Set.univ) (Set.mem_univ _) () (O := owedL c l) (W := W) (R := 0) (m := 0) (T := ∅)
      (show 0 + 3 = (rd m ρ).expect (barCell c) 0 by rw [expect_bar])) $$ [Hc HO Hat]
  · isplitr; · iapply (rec_inv m ρ K (c, none)); iexact HR
    isplitl [Hc]; · iexact Hc
    isplitl [HO]; · iexact HO
    isplitr; · iapply (mayWait c (.reg barS) l 1 (le_of_eq rfl) hl); iexact Hl
    iexact Hat
  iintro ⟨HO, Hat, -, Hp⟩
  ihave Hp := (Entails.of_eq (rest_bar m ρ c)) $$ Hp
  imod (Rounds.cell_close ER (rd m ρ) (Set.mem_univ (K (c, none))) (fun h => h) (R := 0 + 1) (duties_later m ρ (barCell c))) $$ [Hat] with Hz
  · isplitr; · iapply (rec_inv m ρ K (c, none)); iexact HR
    iexact Hat
  iapply Hk
  isplitl [HO]; · iexists _; iexact HO
  isplitl [Hz]; · iexact Hz
  iexact Hp

/-- The transfer `x`: the chunk read through its share, landing in the slot of `tgt x.1 c`. -/
theorem send {α : Type} {Q : α → sProp 𝕄} (x : X) (n : Dev nD) (hn : n = tgt x.1 c) (l : List Pay)
    {hsc : (cmM x : Memref sig (Dev.tc n : Thread nD τ).2.kind .vmem S2x1024x256 .i8).view.ref.isScScratch = false}
    {hsrc : (kvM x.2 : Memref sig .tc .vmem S2x1024x256 .i8).view.WordExact} {hdst : (cmM x : Memref sig .tc .vmem S2x1024x256 .i8).view.WordExact}
    {hsem : DmaTarget.Typed .vmem (.dma (recvS x)) (.remote (Dev.tc n : Thread nD τ) (cmM x : Memref sig .tc .vmem S2x1024x256 .i8) (.dma (sendS x)) hsc)}
    {k : PUnit → Prog (TpuEff nD τ sig (Elt F) Λ₀ .tc) α} :
    iprop(records m ρ K ∗ ow c (.inr x :: l) ∗ dutyTok ER (sendCell c x) 0 0 ∗ dutyTok ER (recvCell (tgt x.1 c) x) 0 0
        ∗ kvPts c x.2 (shr x.1) (kvAt m ρ c) ∗ ∃ f, cmPts (tgt x.1 c) x f)
      ⊢ iprop(((ow c l ∗ cred (tallyAt (sendCell c x) () N)) -∗ run c (k ⟨⟩) Q)
        -∗ run c (.op (.enqueueDma (kvM x.2) (.remote (Dev.tc n : Thread nD τ) (cmM x) (.dma (sendS x)) hsc) (.dma (recvS x)) hsrc hdst hsem) k) Q) := by
  subst hn
  unfold ow kvPts cmPts
  iintro ⟨#HR, ⟨%W, HO⟩, Hs, Hr, Hkv, ⟨%f, Hcm⟩⟩ Hk
  iapply (Rounds.wp_send_pointsTo 𝒱₀ ER (rd m ρ) (c : Thread nD τ) none (κ₁ := K (c, some (false, x))) (κ₂ := K (tgt x.1 c, some (true, x)))
    (r₁ := 0) (r₂ := 0) (d₁ := 0) (d₂ := 0) (fd := f) (q := shr x.1) (fs := kvAt m ρ c) (sS := .dma (sendS x)) (sem := .dma (recvS x)) (src := kvM x.2) (dst := cmM x) (c' := (tgt x.1 c : Thread nD τ))
    (mem_x m ρ c (false, x))
    (mem_x m ρ (tgt x.1 c) (true, x))
    () () N (N_cm x) (amount_k m ρ c (some (false, x)) 0) (amount_k m ρ (tgt x.1 c) (some (true, x)) 0) (owedL c l) rfl (W := W)
    (Entails.of_eq (payload_k m ρ c (some (false, x)) 0).symm)
    ((Entails.of_eq (pointsTo_congr (landed x (kvAt m ρ) c (tgt x.1 c) (src_tgt x.1 c) f))).trans
      (Entails.of_eq (payload_k m ρ (tgt x.1 c) (some (true, x)) 0).symm))) $$ [HO Hs Hr Hkv Hcm]
  · isplitr; · iapply (rec_inv m ρ K (c, some (false, x))); iexact HR
    isplitr; · iapply (rec_inv m ρ K (tgt x.1 c, some (true, x))); iexact HR
    isplitl [Hkv]; · iexact Hkv
    isplitl [Hcm]; · iexact Hcm
    isplitl [HO]; · iexact HO
    isplitl [Hs]; · iexact Hs
    isplitr; · iapply (rec_reached m ρ K (c, some (false, x))); iexact HR
    isplitl [Hr]; · iexact Hr
    iapply (rec_reached m ρ K (tgt x.1 c, some (true, x))); iexact HR
  iintro ⟨Hc, HO⟩
  iapply Hk
  isplitl [HO]; · iexists W; iexact HO
  iexact Hc

/-- The wait at the sending side of `x`: the chunk's share back, and the cell closed. -/
theorem wait_send {α : Type} {Q : α → sProp 𝕄} (x : X) (l : List Pay) (hl : ∀ p ∈ l, 0 < payLv p)
    {s : Memref sig .tc .vmem S2x1024x256 .i8} {d : Memref sig .tc .vmem S2x1024x256 .i8} (hd : d.view.dmaCredit = N) {h1 h2}
    {k : PUnit → Prog (TpuEff nD τ sig (Elt F) Λ₀ .tc) α} :
    iprop(records m ρ K ∗ levAts L lv ∗ cred (tallyAt (sendCell c x) () N) ∗ ow c l ∗ atPos ER (sendCell c x) 0 ∅ 0)
      ⊢ iprop(((ow c l ∗ semVal (sendCell c x) 0 ∗ kvPts c x.2 (shr x.1) (kvAt m ρ c)) -∗ run c (k ⟨⟩) Q)
        -∗ run c (.op (.waitDma2 (sendS x) s d h1 h2) k) Q) := by
  unfold ow
  rw [← hd]
  iintro ⟨#HR, #Hl, Hc, ⟨%W, HO⟩, Hat⟩ Hk
  iapply (Rounds.wp_wait_rest_token 𝒱₀ ER (rd m ρ) (c : Thread nD τ) none (κ := K (c, some (false, x))) (sm := csem (some (false, x)))
      (wpE_waitDma2_eq 𝒱₀ (c : Thread nD τ) none Set.univ) (Set.mem_univ _) () (O := owedL c l) (W := W) (R := 0) (m := 0) (T := ∅)
      (by rw [Nat.zero_add, hd]; exact (expect_x m ρ c (false, x)).symm)) $$ [Hc HO Hat]
  · isplitr; · iapply (rec_inv m ρ K (c, some (false, x))); iexact HR
    isplitl [Hc]; · iexact Hc
    isplitl [HO]; · iexact HO
    isplitr
    · iapply (mayWait c (.dma (sendS x)) l 0 (le_of_eq (by show lvOf (dec (csem (some (false, x)))) = 0; rw [dec_csem]; rfl)) hl); iexact Hl
    iexact Hat
  iintro ⟨HO, Hat, -, Hp⟩
  ihave Hp := (Entails.of_eq (rest_send m ρ c x)) $$ Hp
  unfold sendPay
  imod (Rounds.cell_close ER (rd m ρ) (Set.mem_univ (K (c, some (false, x)))) (fun h => h) (R := 0 + 1) (duties_later m ρ (sendCell c x))) $$ [Hat] with Hz
  · isplitr; · iapply (rec_inv m ρ K (c, some (false, x))); iexact HR
    iexact Hat
  iapply Hk
  isplitl [HO]; · iexists _; iexact HO
  isplitl [Hz]; · iexact Hz
  iexact Hp

/-- The wait at the receiving side of `x`, everything paid: the slot filled, and the cell closed. -/
theorem wait_recv {α : Type} {Q : α → sProp 𝕄} (x : X)
    {s : Memref sig .tc .vmem S2x1024x256 .i8} {d : Memref sig .tc .vmem S2x1024x256 .i8} (hd : d.view.dmaCredit = N) {h1 h2}
    {k : PUnit → Prog (TpuEff nD τ sig (Elt F) Λ₀ .tc) α} :
    iprop(records m ρ K ∗ levAts L lv ∗ cred (tallyAt (recvCell c x) () N) ∗ ow c [] ∗ atPos ER (recvCell c x) 0 ∅ 0)
      ⊢ iprop(((ow c [] ∗ semVal (recvCell c x) 0 ∗ cmPts c x (cmAt m ρ c)) -∗ run c (k ⟨⟩) Q)
        -∗ run c (.op (.waitDma2 (recvS x) s d h1 h2) k) Q) := by
  unfold ow
  rw [← hd]
  iintro ⟨#HR, #Hl, Hc, ⟨%W, HO⟩, Hat⟩ Hk
  iapply (Rounds.wp_wait_rest_token 𝒱₀ ER (rd m ρ) (c : Thread nD τ) none (κ := K (c, some (true, x))) (sm := csem (some (true, x)))
      (wpE_waitDma2_eq 𝒱₀ (c : Thread nD τ) none Set.univ) (Set.mem_univ _) () (O := owedL c []) (W := W) (R := 0) (m := 0) (T := ∅)
      (by rw [Nat.zero_add, hd]; exact (expect_x m ρ c (true, x)).symm)) $$ [Hc HO Hat]
  · isplitr; · iapply (rec_inv m ρ K (c, some (true, x))); iexact HR
    isplitl [Hc]; · iexact Hc
    isplitl [HO]; · iexact HO
    isplitr
    · iapply (mayWait c (.dma (recvS x)) [] 2 (le_of_eq (by show lvOf (dec (csem (some (true, x)))) = 2; rw [dec_csem]; rfl)) (fun p hp => absurd hp List.not_mem_nil)); iexact Hl
    iexact Hat
  iintro ⟨HO, Hat, -, Hp⟩
  ihave Hp := (Entails.of_eq (rest_recv m ρ c x)) $$ Hp
  unfold recvPay
  imod (Rounds.cell_close ER (rd m ρ) (Set.mem_univ (K (c, some (true, x)))) (fun h => h) (R := 0 + 1) (duties_later m ρ (recvCell c x))) $$ [Hat] with Hz
  · isplitr; · iapply (rec_inv m ρ K (c, some (true, x))); iexact HR
    iexact Hat
  iapply Hk
  isplitl [HO]; · iexists _; iexact HO
  isplitl [Hz]; · iexact Hz
  iexact Hp

end Sync

end Cert.GatherProof

end
-- ==== Proof.Body.lean ====
/- The kernel's body on a device, part by part as the skeleton cuts it, and then whole: from what the device holds at
   launch to its result stored, every slot filled and every cell closed. -/
module

public import proofs.«01_k».proof.Proof.Step

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-- A program that has ended. -/
theorem run_ret {α : Type} {Q : α → sProp 𝕄} (a : α) : Q a ⊢ run c (.ret a) Q := by
  unfold run; rw [wp_ret]; iintro H; imodintro; iexact H

/-- The transfers, in the order the device starts them. -/
abbrev pays5 : List Pay := [.inr (0, 0), .inr (2, 0), .inr (0, 1), .inr (2, 1), .inr (1, 0), .inr (1, 1)]

/-- The other devices told; their word waited for; the first keys loaded. -/
theorem part1 {Kt : (Σ' (d0 : Dev nD) (v2 : BitVec 32) (v25 : IVec S1024x256 8), Vec F S1x1x1024x256 .i8) → sProp 𝕄}
    (f : Buf (Elt F) ((c : Thread nD τ).loc cc0_scratch1)) (f0 : (cc0_scratch0 : Ref sig .tc).ty.Contents (Elt F)) :
    iprop(records m ρ K ∗ levAts L lv ∗ ow c allPays ∗ atPos ER (barCell c) 0 ∅ 0 ∗ cred (tallyAt (barCell c) () 3)
        ∗ (bigSep Finset.univ fun j : Fin 3 => dutyTok ER (barCell (src j c)) 0 j)
        ∗ cmWhole c f ∗ stgPts c cc0_stg1_0 (kst m ρ c) ∗ kvPts c 0 fullShare f0)
      ⊢ iprop((∀ v2 v26, (ow c pays5 ∗ semVal (barCell c) 0 ∗ barPay c 0 ∗ barPay c 1 ∗ barPay c 2 ∗ stgPts c cc0_stg1_0 (kst m ρ c) ∗ kvPts c 0 fullShare f0)
          -∗ Kt ⟨c, v2, k0_pay1 (half 0 (kst m ρ c)), v26⟩)
        -∗ run c (k0_part1 qB (Memref.isWhole_whole _) kB (Memref.isWhole_whole _) vB (Memref.isWhole_whole _) oB (Memref.isWhole_whole _) kvB (Memref.isWhole_whole _) cmB (Memref.isWhole_whole _) cc0_scratch2 cc0_scratch3) Kt) := by
  simp only [k0_part1_eq_skeleton]; unfold k0_part1_skel
  simp only [semSignalWord, semWaitWord, Prog.lift, Prog.bind_op, Prog.bind_ret, Prog.pure_eq_ret, wp_deviceId]
  iintro ⟨#HR, #Hl, HO, Hat, Hc, Ht, Hcm, Hk, Hkv⟩ HK
  ihave Ht := (Entails.of_eq (bigSep_fin3 _)) $$ Ht
  ihave Hcm := (Entails.of_eq ((cm_split c f).trans (bigSep_X _))) $$ Hcm
  icases Ht with ⟨Ht0, Ht1, Ht2⟩
  icases Hcm with ⟨H00, H01, H10, H11, H20, H21⟩
  iapply (signal_bar m ρ K c 0 _ (dev1_eq c) _) $$ [HO Ht0 H00 H01]
  · isplitr; · iexact HR
    isplitl [HO]; · iexact HO
    isplitl [Ht0]; · iexact Ht0
    isplitl [H00]; · iexists f; iexact H00
    iexists f; iexact H01
  iintro HO
  iapply (signal_bar m ρ K c 1 _ (dev2_eq c) _) $$ [HO Ht1 H10 H11]
  · isplitr; · iexact HR
    isplitl [HO]; · iexact HO
    isplitl [Ht1]; · iexact Ht1
    isplitl [H10]; · iexists f; iexact H10
    iexists f; iexact H11
  iintro HO
  iapply (signal_bar m ρ K c 2 _ (dev3_eq c) _) $$ [HO Ht2 H20 H21]
  · isplitr; · iexact HR
    isplitl [HO]; · iexact HO
    isplitl [Ht2]; · iexact Ht2
    isplitl [H20]; · iexists f; iexact H20
    iexists f; iexact H21
  iintro HO
  iapply (wait_bar m ρ K c pays5 (by decide)) $$ [HO Hat Hc]
  · isplitr; · iexact HR
    isplitr; · iexact Hl
    isplitl [Hc]; · iexact Hc
    isplitl [HO]; · iexact HO
    iexact Hat
  iintro ⟨HO, Hz, Hb0, Hb1, Hb2⟩
  iapply (load_k c 0 (kst m ρ c)) $$ Hk
  iintro Hk
  iapply (load_kv_any c 0 0 fullShare f0) $$ Hkv
  iintro Hkv
  iapply (run_ret c _)
  iapply HK
  isplitl [HO]; · iexact HO
  isplitl [Hz]; · iexact Hz
  isplitl [Hb0]; · iexact Hb0
  isplitl [Hb1]; · iexact Hb1
  isplitl [Hb2]; · iexact Hb2
  isplitl [Hk]; · iexact Hk
  iexact Hkv

/-- The first chunk quantised and stored; its transfer into slot 0 started. -/
theorem part2 {Kt : _ → sProp 𝕄} (f0 : (cc0_scratch0 : Ref sig .tc).ty.Contents (Elt F)) (l : List Pay) (v2 : BitVec 32) (v26 : Vec F S1x1x1024x256 .i8) :
    iprop(records m ρ K ∗ ow c (.inr (0, 0) :: l) ∗ dutyTok ER (sendCell c (0, 0)) 0 0 ∗ dutyTok ER (recvCell (tgt 0 c) (0, 0)) 0 0 ∗ (∃ f, cmPts (tgt 0 c) (0, 0) f) ∗ stgPts c cc0_stg2_0 (vst m ρ c) ∗ kvPts c 0 fullShare f0)
      ⊢ iprop((∀ r, (ow c l ∗ cred (tallyAt (sendCell c (0, 0)) () N) ∗ stgPts c cc0_stg2_0 (vst m ρ c) ∗ kvPts c 0 (shr 2) (kvAt m ρ c) ∗ kvPts c 0 shrK (kvAt m ρ c)) -∗ Kt r)
        -∗ run c (k0_part2 qB (Memref.isWhole_whole _) kB (Memref.isWhole_whole _) vB (Memref.isWhole_whole _) oB (Memref.isWhole_whole _) kvB (Memref.isWhole_whole _) cmB (Memref.isWhole_whole _) cc0_scratch2 cc0_scratch3 c v2 (k0_pay1 (half 0 (kst m ρ c))) v26) Kt) := by
  simp only [k0_part2_eq_skeleton]; unfold k0_part2_skel
  simp only [Prog.lift, Prog.bind_op, Prog.bind_ret, Prog.pure_eq_ret]
  iintro ⟨#HR, HO, Hs, Hr, Hcm, Hv, Hkv⟩ HK
  iapply (store_kv c 0 0 f0 ((inp m ρ c).own 0 0)) $$ Hkv
  iintro Hkv
  iapply (load_v c 0 (vst m ρ c)) $$ Hv
  iintro Hv
  iapply (load_kv_any c 0 1 fullShare _) $$ Hkv
  iintro Hkv
  iapply (store_kv c 0 1 _ ((inp m ρ c).own 0 1)) $$ Hkv
  iintro Hkv
  ihave Hkv := ((Entails.of_eq (kv_stored m ρ c 0 f0)).trans (kv_deal c 0 (kvAt m ρ c))) $$ Hkv
  icases Hkv with ⟨H0, H2, Hm⟩
  iapply (send m ρ K c (0, 0) _ (dev4_eq c) l) $$ [HO Hs Hr H0 Hcm]
  · isplitr; · iexact HR
    isplitl [HO]; · iexact HO
    isplitl [Hs]; · iexact Hs
    isplitl [Hr]; · iexact Hr
    isplitl [H0]; · iexact H0
    iexact Hcm
  iintro ⟨HO, Hc⟩
  iapply (run_ret c _)
  iapply HK
  isplitl [HO]; · iexact HO
  isplitl [Hc]; · iexact Hc
  isplitl [Hv]; · iexact Hv
  isplitl [H2]; · iexact H2
  iexact Hm

/-- The first chunk's transfer into slot 2 started; the second chunk's keys quantised and stored. -/
theorem part3 {Kt : _ → sProp 𝕄} (f0 : (cc0_scratch0 : Ref sig .tc).ty.Contents (Elt F)) (l : List Pay) (v55 : BitVec 32) :
    iprop(records m ρ K ∗ ow c (.inr (2, 0) :: l) ∗ dutyTok ER (sendCell c (2, 0)) 0 0 ∗ dutyTok ER (recvCell (tgt 2 c) (2, 0)) 0 0 ∗ (∃ f, cmPts (tgt 2 c) (2, 0) f) ∗ kvPts c 0 (shr 2) (kvAt m ρ c) ∗ stgPts c cc0_stg1_0 (kst m ρ c) ∗ stgPts c cc0_stg2_0 (vst m ρ c) ∗ kvPts c 1 fullShare f0)
      ⊢ iprop(((ow c l ∗ cred (tallyAt (sendCell c (2, 0)) () N) ∗ stgPts c cc0_stg1_0 (kst m ρ c) ∗ stgPts c cc0_stg2_0 (vst m ρ c) ∗ kvPts c 1 fullShare ((kvB.access (kvE 1 0) : View sig .tc _ _ _).write (Elt F) f0 ((inp m ρ c).own 1 0) Finset.univ)) -∗ Kt ⟨Scalar.ofBits .f32 0x42FE0000#32, k0_pay5 (half 1 (vst m ρ c))⟩)
        -∗ run c (k0_part3 qB (Memref.isWhole_whole _) kB (Memref.isWhole_whole _) vB (Memref.isWhole_whole _) oB (Memref.isWhole_whole _) kvB (Memref.isWhole_whole _) cmB (Memref.isWhole_whole _) cc0_scratch2 cc0_scratch3 c v55) Kt) := by
  simp only [k0_part3_eq_skeleton]; unfold k0_part3_skel
  simp only [Prog.lift, Prog.bind_op, Prog.bind_ret, Prog.pure_eq_ret]
  iintro ⟨#HR, HO, Hs, Hr, Hcm, H2, Hk, Hv, Hkv⟩ HK
  iapply (send m ρ K c (2, 0) _ (dev5_eq c) l) $$ [HO Hs Hr H2 Hcm]
  · isplitr; · iexact HR
    isplitl [HO]; · iexact HO
    isplitl [Hs]; · iexact Hs
    isplitl [Hr]; · iexact Hr
    isplitl [H2]; · iexact H2
    iexact Hcm
  iintro ⟨HO, Hc⟩
  iapply (load_k c 1 (kst m ρ c)) $$ Hk
  iintro Hk
  iapply (load_kv_any c 1 0 fullShare _) $$ Hkv
  iintro Hkv
  iapply (store_kv c 1 0 f0 ((inp m ρ c).own 1 0)) $$ Hkv
  iintro Hkv
  iapply (load_v c 1 (vst m ρ c)) $$ Hv
  iintro Hv
  iapply (run_ret c _)
  iapply HK
  isplitl [HO]; · iexact HO
  isplitl [Hc]; · iexact Hc
  isplitl [Hk]; · iexact Hk
  isplitl [Hv]; · iexact Hv
  iexact Hkv

/-- The second chunk's values stored; its transfer into slot 0 started. -/
theorem part4 {Kt : _ → sProp 𝕄} (f0 : (cc0_scratch0 : Ref sig .tc).ty.Contents (Elt F)) (l : List Pay) (v2 : BitVec 32) :
    iprop(records m ρ K ∗ ow c (.inr (0, 1) :: l) ∗ dutyTok ER (sendCell c (0, 1)) 0 0 ∗ dutyTok ER (recvCell (tgt 0 c) (0, 1)) 0 0 ∗ (∃ f, cmPts (tgt 0 c) (0, 1) f) ∗ kvPts c 1 fullShare ((kvB.access (kvE 1 0) : View sig .tc _ _ _).write (Elt F) f0 ((inp m ρ c).own 1 0) Finset.univ))
      ⊢ iprop((∀ r, (ow c l ∗ cred (tallyAt (sendCell c (0, 1)) () N) ∗ kvPts c 1 (shr 2) (kvAt m ρ c) ∗ kvPts c 1 shrK (kvAt m ρ c)) -∗ Kt r)
        -∗ run c (k0_part4 qB (Memref.isWhole_whole _) kB (Memref.isWhole_whole _) vB (Memref.isWhole_whole _) oB (Memref.isWhole_whole _) kvB (Memref.isWhole_whole _) cmB (Memref.isWhole_whole _) cc0_scratch2 cc0_scratch3 c v2 (Scalar.ofBits .f32 0x42FE0000#32) (k0_pay5 (half 1 (vst m ρ c)))) Kt) := by
  simp only [k0_part4_eq_skeleton]; unfold k0_part4_skel
  simp only [Prog.lift, Prog.bind_op, Prog.bind_ret, Prog.pure_eq_ret]
  iintro ⟨#HR, HO, Hs, Hr, Hcm, Hkv⟩ HK
  iapply (load_kv_any c 1 1 fullShare _) $$ Hkv
  iintro Hkv
  iapply (store_kv c 1 1 _ ((inp m ρ c).own 1 1)) $$ Hkv
  iintro Hkv
  ihave Hkv := ((Entails.of_eq (kv_stored m ρ c 1 f0)).trans (kv_deal c 1 (kvAt m ρ c))) $$ Hkv
  icases Hkv with ⟨H0, H2, Hm⟩
  iapply (send m ρ K c (0, 1) _ (dev6_eq c) l) $$ [HO Hs Hr H0 Hcm]
  · isplitr; · iexact HR
    isplitl [HO]; · iexact HO
    isplitl [Hs]; · iexact Hs
    isplitl [Hr]; · iexact Hr
    isplitl [H0]; · iexact H0
    iexact Hcm
  iintro ⟨HO, Hc⟩
  iapply (run_ret c _)
  iapply HK
  isplitl [HO]; · iexact HO
  isplitl [Hc]; · iexact Hc
  isplitl [H2]; · iexact H2
  iexact Hm

/-- The second chunk's transfer into slot 2 started; the queries and the first chunk loaded. -/
theorem part5 {Kt : _ → sProp 𝕄} (l : List Pay) :
    iprop(records m ρ K ∗ ow c (.inr (2, 1) :: l) ∗ dutyTok ER (sendCell c (2, 1)) 0 0 ∗ dutyTok ER (recvCell (tgt 2 c) (2, 1)) 0 0 ∗ (∃ f, cmPts (tgt 2 c) (2, 1) f) ∗ kvPts c 1 (shr 2) (kvAt m ρ c) ∗ stgPts c cc0_stg0_0 (inp m ρ c).q ∗ kvPts c 0 shrK (kvAt m ρ c))
      ⊢ iprop(((ow c l ∗ cred (tallyAt (sendCell c (2, 1)) () N) ∗ stgPts c cc0_stg0_0 (inp m ρ c).q ∗ kvPts c 0 shrK (kvAt m ρ c)) -∗ Kt ⟨V120 (inp m ρ c), V125 (inp m ρ c), V135 (inp m ρ c), V137 (inp m ρ c), V141 (inp m ρ c), V143 (inp m ρ c)⟩)
        -∗ run c (k0_part5 qB (Memref.isWhole_whole _) kB (Memref.isWhole_whole _) vB (Memref.isWhole_whole _) oB (Memref.isWhole_whole _) kvB (Memref.isWhole_whole _) cmB (Memref.isWhole_whole _) cc0_scratch2 cc0_scratch3 c) Kt) := by
  simp only [k0_part5_eq_skeleton]; unfold k0_part5_skel
  simp only [Prog.lift, Prog.bind_op, Prog.bind_ret, Prog.pure_eq_ret]
  unfold V120 V125 V135 V137 V141 V143
  iintro ⟨#HR, HO, Hs, Hr, Hcm, H2, Hq, Hm⟩ HK
  iapply (send m ρ K c (2, 1) _ (dev7_eq c) l) $$ [HO Hs Hr H2 Hcm]
  · isplitr; · iexact HR
    isplitl [HO]; · iexact HO
    isplitl [Hs]; · iexact Hs
    isplitl [Hr]; · iexact Hr
    isplitl [H2]; · iexact H2
    iexact Hcm
  iintro ⟨HO, Hc⟩
  iapply (load_q c 0 (inp m ρ c).q) $$ Hq
  iintro Hq
  iapply (load_q c 1 (inp m ρ c).q) $$ Hq
  iintro Hq
  iapply (load_kv m ρ c 0 0 shrK) $$ Hm
  iintro Hm
  iapply (load_kv m ρ c 0 1 shrK) $$ Hm
  iintro Hm
  iapply (run_ret c _)
  iapply HK
  isplitl [HO]; · iexact HO
  isplitl [Hc]; · iexact Hc
  isplitl [Hq]; · iexact Hq
  iexact Hm

/-- The transfers into slot 1, which start last. -/
abbrev pays2 : List Pay := [.inr (1, 0), .inr (1, 1)]

/-- The second chunk loaded; the first chunk's transfer into slot 0 waited for. -/
theorem part6 {Kt : _ → sProp 𝕄} :
    iprop(records m ρ K ∗ levAts L lv ∗ cred (tallyAt (sendCell c (0, 0)) () N) ∗ ow c pays2 ∗ atPos ER (sendCell c (0, 0)) 0 ∅ 0 ∗ kvPts c 1 shrK (kvAt m ρ c))
      ⊢ iprop(((ow c pays2 ∗ semVal (sendCell c (0, 0)) 0 ∗ kvPts c 0 (shr 0) (kvAt m ρ c) ∗ kvPts c 1 shrK (kvAt m ρ c)) -∗ Kt ⟨V156 (inp m ρ c), V157 (inp m ρ c), V164 (inp m ρ c), V165 (inp m ρ c)⟩)
        -∗ run c (k0_part6 qB (Memref.isWhole_whole _) kB (Memref.isWhole_whole _) vB (Memref.isWhole_whole _) oB (Memref.isWhole_whole _) kvB (Memref.isWhole_whole _) cmB (Memref.isWhole_whole _) cc0_scratch2 cc0_scratch3 (V120 (inp m ρ c)) (V125 (inp m ρ c)) (V135 (inp m ρ c)) (V137 (inp m ρ c)) (V141 (inp m ρ c)) (V143 (inp m ρ c))) Kt) := by
  simp only [k0_part6_eq_skeleton]; unfold k0_part6_skel
  simp only [Prog.lift, Prog.bind_op, Prog.bind_ret, Prog.pure_eq_ret]
  unfold V156 V157 V164 V165
  iintro ⟨#HR, #Hl, Hc, HO, Hat, Hm⟩ HK
  iapply (load_kv m ρ c 1 0 shrK) $$ Hm
  iintro Hm
  iapply (load_kv m ρ c 1 1 shrK) $$ Hm
  iintro Hm
  iapply (wait_send m ρ K c (0, 0) pays2 (by decide) (by rfl)) $$ [Hc HO Hat]
  · isplitr; · iexact HR
    isplitr; · iexact Hl
    isplitl [Hc]; · iexact Hc
    isplitl [HO]; · iexact HO
    iexact Hat
  iintro ⟨HO, Hz, H0⟩
  iapply (run_ret c _)
  iapply HK
  isplitl [HO]; · iexact HO
  isplitl [Hz]; · iexact Hz
  isplitl [H0]; · iexact H0
  iexact Hm

/-- The other three transfers so far waited for. -/
theorem part7 {Kt : _ → sProp 𝕄} :
    iprop(records m ρ K ∗ levAts L lv ∗ ow c pays2 ∗ cred (tallyAt (sendCell c (0, 1)) () N) ∗ cred (tallyAt (sendCell c (2, 0)) () N) ∗ cred (tallyAt (sendCell c (2, 1)) () N) ∗ atPos ER (sendCell c (0, 1)) 0 ∅ 0 ∗ atPos ER (sendCell c (2, 0)) 0 ∅ 0 ∗ atPos ER (sendCell c (2, 1)) 0 ∅ 0)
      ⊢ iprop(((ow c pays2 ∗ semVal (sendCell c (0, 1)) 0 ∗ semVal (sendCell c (2, 0)) 0 ∗ semVal (sendCell c (2, 1)) 0 ∗ kvPts c 1 (shr 0) (kvAt m ρ c) ∗ kvPts c 0 (shr 2) (kvAt m ρ c) ∗ kvPts c 1 (shr 2) (kvAt m ρ c)) -∗ Kt ⟨⟩)
        -∗ run c (k0_part7 qB (Memref.isWhole_whole _) kB (Memref.isWhole_whole _) vB (Memref.isWhole_whole _) oB (Memref.isWhole_whole _) kvB (Memref.isWhole_whole _) cmB (Memref.isWhole_whole _) cc0_scratch2 cc0_scratch3) Kt) := by
  simp only [k0_part7_eq_skeleton]; unfold k0_part7_skel
  simp only [Prog.lift, Prog.bind_op, Prog.bind_ret, Prog.pure_eq_ret]
  iintro ⟨#HR, #Hl, HO, Hc0, Hc1, Hc2, Ha0, Ha1, Ha2⟩ HK
  iapply (wait_send m ρ K c (0, 1) pays2 (by decide) (by rfl)) $$ [Hc0 HO Ha0]
  · isplitr; · iexact HR
    isplitr; · iexact Hl
    isplitl [Hc0]; · iexact Hc0
    isplitl [HO]; · iexact HO
    iexact Ha0
  iintro ⟨HO, Hz0, Hp0⟩
  iapply (wait_send m ρ K c (2, 0) pays2 (by decide) (by rfl)) $$ [Hc1 HO Ha1]
  · isplitr; · iexact HR
    isplitr; · iexact Hl
    isplitl [Hc1]; · iexact Hc1
    isplitl [HO]; · iexact HO
    iexact Ha1
  iintro ⟨HO, Hz1, Hp1⟩
  iapply (wait_send m ρ K c (2, 1) pays2 (by decide) (by rfl)) $$ [Hc2 HO Ha2]
  · isplitr; · iexact HR
    isplitr; · iexact Hl
    isplitl [Hc2]; · iexact Hc2
    isplitl [HO]; · iexact HO
    iexact Ha2
  iintro ⟨HO, Hz2, Hp2⟩
  iapply (run_ret c _)
  iapply HK
  isplitl [HO]; · iexact HO
  isplitl [Hz0]; · iexact Hz0
  isplitl [Hz1]; · iexact Hz1
  isplitl [Hz2]; · iexact Hz2
  isplitl [Hp0]; · iexact Hp0
  isplitl [Hp1]; · iexact Hp1
  iexact Hp2

/-- Both chunks' transfers into slot 1 started. -/
theorem part8 {Kt : _ → sProp 𝕄}(v2 : BitVec 32) :
    iprop(records m ρ K ∗ ow c pays2 ∗ dutyTok ER (sendCell c (1, 0)) 0 0 ∗ dutyTok ER (sendCell c (1, 1)) 0 0 ∗ dutyTok ER (recvCell (tgt 1 c) (1, 0)) 0 0 ∗ dutyTok ER (recvCell (tgt 1 c) (1, 1)) 0 0 ∗ (∃ f, cmPts (tgt 1 c) (1, 0) f) ∗ (∃ f, cmPts (tgt 1 c) (1, 1) f) ∗ kvPts c 0 fullShare (kvAt m ρ c) ∗ kvPts c 1 fullShare (kvAt m ρ c))
      ⊢ iprop((∀ r, (ow c [] ∗ cred (tallyAt (sendCell c (1, 0)) () N) ∗ cred (tallyAt (sendCell c (1, 1)) () N)) -∗ Kt r)
        -∗ run c (k0_part8 qB (Memref.isWhole_whole _) kB (Memref.isWhole_whole _) vB (Memref.isWhole_whole _) oB (Memref.isWhole_whole _) kvB (Memref.isWhole_whole _) cmB (Memref.isWhole_whole _) cc0_scratch2 cc0_scratch3 c v2) Kt) := by
  simp only [k0_part8_eq_skeleton]; unfold k0_part8_skel
  simp only [Prog.lift, Prog.bind_op, Prog.bind_ret, Prog.pure_eq_ret]
  iintro ⟨#HR, HO, Hs0, Hs1, Hr0, Hr1, Hcm0, Hcm1, Hkv0, Hkv1⟩ HK
  iapply (send m ρ K c (1, 0) _ (dev8_eq c) [.inr (1, 1)]) $$ [HO Hs0 Hr0 Hkv0 Hcm0]
  · isplitr; · iexact HR
    isplitl [HO]; · iexact HO
    isplitl [Hs0]; · iexact Hs0
    isplitl [Hr0]; · iexact Hr0
    isplitl [Hkv0]; · iexact Hkv0
    iexact Hcm0
  iintro ⟨HO, Hc0⟩
  iapply (send m ρ K c (1, 1) _ (dev9_eq c) []) $$ [HO Hs1 Hr1 Hkv1 Hcm1]
  · isplitr; · iexact HR
    isplitl [HO]; · iexact HO
    isplitl [Hs1]; · iexact Hs1
    isplitl [Hr1]; · iexact Hr1
    isplitl [Hkv1]; · iexact Hkv1
    iexact Hcm1
  iintro ⟨HO, Hc1⟩
  iapply (run_ret c _)
  iapply HK
  isplitl [HO]; · iexact HO
  isplitl [Hc0]; · iexact Hc0
  iexact Hc1

/-- The landing of (0, 0) waited for, and loaded. -/
theorem part9 {Kt : _ → sProp 𝕄} (v43 : BitVec 32) :
    iprop(records m ρ K ∗ levAts L lv ∗ cred (tallyAt (recvCell c (0, 0)) () N) ∗ ow c [] ∗ atPos ER (recvCell c (0, 0)) 0 ∅ 0)
      ⊢ iprop(((ow c [] ∗ semVal (recvCell c (0, 0)) 0 ∗ cmPts c (0, 0) (cmAt m ρ c)) -∗ Kt ⟨V234 (inp m ρ c), V235 (inp m ρ c), V239 (inp m ρ c), V241 (inp m ρ c)⟩)
        -∗ run c (k0_part9 qB (Memref.isWhole_whole _) kB (Memref.isWhole_whole _) vB (Memref.isWhole_whole _) oB (Memref.isWhole_whole _) kvB (Memref.isWhole_whole _) cmB (Memref.isWhole_whole _) cc0_scratch2 cc0_scratch3 v43 (V120 (inp m ρ c)) (V125 (inp m ρ c)) (V156 (inp m ρ c)) (V157 (inp m ρ c))) Kt) := by
  simp only [k0_part9_eq_skeleton]; unfold k0_part9_skel
  simp only [Prog.lift, Prog.bind_op, Prog.bind_ret, Prog.pure_eq_ret]
  unfold V234 V235 V239 V241
  iintro ⟨#HR, #Hl, Hc, HO, Hat⟩ HK
  iapply (wait_recv m ρ K c (0, 0) (by rfl)) $$ [Hc HO Hat]
  · isplitr; · iexact HR
    isplitr; · iexact Hl
    isplitl [Hc]; · iexact Hc
    isplitl [HO]; · iexact HO
    iexact Hat
  iintro ⟨HO, Hz, Hcm⟩
  iapply (load_cm m ρ c (0, 0) 0) $$ Hcm
  iintro Hcm
  iapply (load_cm m ρ c (0, 0) 1) $$ Hcm
  iintro Hcm
  iapply (run_ret c _)
  iapply HK
  isplitl [HO]; · iexact HO
  isplitl [Hz]; · iexact Hz
  iexact Hcm

/-- The landing of (2, 0) waited for, and loaded. -/
theorem part10 {Kt : _ → sProp 𝕄} (v55 : BitVec 32) :
    iprop(records m ρ K ∗ levAts L lv ∗ cred (tallyAt (recvCell c (2, 0)) () N) ∗ ow c [] ∗ atPos ER (recvCell c (2, 0)) 0 ∅ 0)
      ⊢ iprop(((ow c [] ∗ semVal (recvCell c (2, 0)) 0 ∗ cmPts c (2, 0) (cmAt m ρ c)) -∗ Kt ⟨V242 (inp m ρ c), V243 (inp m ρ c), V264 (inp m ρ c), V265 (inp m ρ c), V267 (inp m ρ c), V269 (inp m ρ c)⟩)
        -∗ run c (k0_part10 qB (Memref.isWhole_whole _) kB (Memref.isWhole_whole _) vB (Memref.isWhole_whole _) oB (Memref.isWhole_whole _) kvB (Memref.isWhole_whole _) cmB (Memref.isWhole_whole _) cc0_scratch2 cc0_scratch3 v55 (V120 (inp m ρ c)) (V125 (inp m ρ c)) (V164 (inp m ρ c)) (V165 (inp m ρ c)) (V234 (inp m ρ c)) (V235 (inp m ρ c)) (V239 (inp m ρ c)) (V241 (inp m ρ c))) Kt) := by
  simp only [k0_part10_eq_skeleton]; unfold k0_part10_skel
  simp only [Prog.lift, Prog.bind_op, Prog.bind_ret, Prog.pure_eq_ret]
  unfold V242 V243 V264 V265 V267 V269
  iintro ⟨#HR, #Hl, Hc, HO, Hat⟩ HK
  iapply (wait_recv m ρ K c (2, 0) (by rfl)) $$ [Hc HO Hat]
  · isplitr; · iexact HR
    isplitr; · iexact Hl
    isplitl [Hc]; · iexact Hc
    isplitl [HO]; · iexact HO
    iexact Hat
  iintro ⟨HO, Hz, Hcm⟩
  iapply (load_cm m ρ c (2, 0) 0) $$ Hcm
  iintro Hcm
  iapply (load_cm m ρ c (2, 0) 1) $$ Hcm
  iintro Hcm
  iapply (run_ret c _)
  iapply HK
  isplitl [HO]; · iexact HO
  isplitl [Hz]; · iexact Hz
  iexact Hcm

/-- The landing of (0, 1) waited for, and loaded. -/
theorem part11 {Kt : _ → sProp 𝕄} (v93 : BitVec 32) :
    iprop(records m ρ K ∗ levAts L lv ∗ cred (tallyAt (recvCell c (0, 1)) () N) ∗ ow c [] ∗ atPos ER (recvCell c (0, 1)) 0 ∅ 0)
      ⊢ iprop(((ow c [] ∗ semVal (recvCell c (0, 1)) 0 ∗ cmPts c (0, 1) (cmAt m ρ c)) -∗ Kt ⟨V272 (inp m ρ c), V273 (inp m ρ c), V287 (inp m ρ c), V294 (inp m ρ c), V295 (inp m ρ c), V297 (inp m ρ c), V298 (inp m ρ c), constant S1024x256 .f32 0x00000000#32⟩)
        -∗ run c (k0_part11 qB (Memref.isWhole_whole _) kB (Memref.isWhole_whole _) vB (Memref.isWhole_whole _) oB (Memref.isWhole_whole _) kvB (Memref.isWhole_whole _) cmB (Memref.isWhole_whole _) cc0_scratch2 cc0_scratch3 v93 (V120 (inp m ρ c)) (V125 (inp m ρ c)) (V242 (inp m ρ c)) (V243 (inp m ρ c)) (V264 (inp m ρ c)) (V265 (inp m ρ c)) (V267 (inp m ρ c)) (V269 (inp m ρ c))) Kt) := by
  simp only [k0_part11_eq_skeleton]; unfold k0_part11_skel
  simp only [Prog.lift, Prog.bind_op, Prog.bind_ret, Prog.pure_eq_ret]
  unfold V272 V273 V287 V294 V295 V297 V298
  iintro ⟨#HR, #Hl, Hc, HO, Hat⟩ HK
  iapply (wait_recv m ρ K c (0, 1) (by rfl)) $$ [Hc HO Hat]
  · isplitr; · iexact HR
    isplitr; · iexact Hl
    isplitl [Hc]; · iexact Hc
    isplitl [HO]; · iexact HO
    iexact Hat
  iintro ⟨HO, Hz, Hcm⟩
  iapply (load_cm m ρ c (0, 1) 0) $$ Hcm
  iintro Hcm
  iapply (load_cm m ρ c (0, 1) 1) $$ Hcm
  iintro Hcm
  iapply (run_ret c _)
  iapply HK
  isplitl [HO]; · iexact HO
  isplitl [Hz]; · iexact Hz
  iexact Hcm

/-- The landing of (2, 1) waited for, and loaded. -/
theorem part12 {Kt : _ → sProp 𝕄} (v105 : BitVec 32) :
    iprop(records m ρ K ∗ levAts L lv ∗ cred (tallyAt (recvCell c (2, 1)) () N) ∗ ow c [] ∗ atPos ER (recvCell c (2, 1)) 0 ∅ 0)
      ⊢ iprop(((ow c [] ∗ semVal (recvCell c (2, 1)) 0 ∗ cmPts c (2, 1) (cmAt m ρ c)) -∗ Kt ⟨V302 (inp m ρ c), V303 (inp m ρ c), V317 (inp m ρ c), V324 (inp m ρ c), V325 (inp m ρ c), V327 (inp m ρ c)⟩)
        -∗ run c (k0_part12 qB (Memref.isWhole_whole _) kB (Memref.isWhole_whole _) vB (Memref.isWhole_whole _) oB (Memref.isWhole_whole _) kvB (Memref.isWhole_whole _) cmB (Memref.isWhole_whole _) cc0_scratch2 cc0_scratch3 v105 (V120 (inp m ρ c)) (V125 (inp m ρ c)) (V272 (inp m ρ c)) (V273 (inp m ρ c)) (V287 (inp m ρ c)) (V294 (inp m ρ c)) (V295 (inp m ρ c)) (V297 (inp m ρ c)) (V298 (inp m ρ c)) (constant S1024x256 .f32 0x00000000#32)) Kt) := by
  simp only [k0_part12_eq_skeleton]; unfold k0_part12_skel
  simp only [Prog.lift, Prog.bind_op, Prog.bind_ret, Prog.pure_eq_ret]
  unfold V302 V303 V317 V324 V325 V327
  iintro ⟨#HR, #Hl, Hc, HO, Hat⟩ HK
  iapply (wait_recv m ρ K c (2, 1) (by rfl)) $$ [Hc HO Hat]
  · isplitr; · iexact HR
    isplitr; · iexact Hl
    isplitl [Hc]; · iexact Hc
    isplitl [HO]; · iexact HO
    iexact Hat
  iintro ⟨HO, Hz, Hcm⟩
  iapply (load_cm m ρ c (2, 1) 0) $$ Hcm
  iintro Hcm
  iapply (load_cm m ρ c (2, 1) 1) $$ Hcm
  iintro Hcm
  iapply (run_ret c _)
  iapply HK
  isplitl [HO]; · iexact HO
  isplitl [Hz]; · iexact Hz
  iexact Hcm

/-- The landing of (1, 0) waited for, and loaded. -/
theorem part13 {Kt : _ → sProp 𝕄} (v191 : BitVec 32) :
    iprop(records m ρ K ∗ levAts L lv ∗ cred (tallyAt (recvCell c (1, 0)) () N) ∗ ow c [] ∗ atPos ER (recvCell c (1, 0)) 0 ∅ 0)
      ⊢ iprop(((ow c [] ∗ semVal (recvCell c (1, 0)) 0 ∗ cmPts c (1, 0) (cmAt m ρ c)) -∗ Kt ⟨V332 (inp m ρ c), V333 (inp m ρ c), V346 (inp m ρ c), V347 (inp m ρ c), V354 (inp m ρ c), V355 (inp m ρ c), constant S1024x1024 .f32 0x00000000#32⟩)
        -∗ run c (k0_part13 qB (Memref.isWhole_whole _) kB (Memref.isWhole_whole _) vB (Memref.isWhole_whole _) oB (Memref.isWhole_whole _) kvB (Memref.isWhole_whole _) cmB (Memref.isWhole_whole _) cc0_scratch2 cc0_scratch3 (V120 (inp m ρ c)) v191 (V302 (inp m ρ c)) (V303 (inp m ρ c)) (V317 (inp m ρ c)) (V324 (inp m ρ c)) (V325 (inp m ρ c)) (V327 (inp m ρ c))) Kt) := by
  simp only [k0_part13_eq_skeleton]; unfold k0_part13_skel
  simp only [Prog.lift, Prog.bind_op, Prog.bind_ret, Prog.pure_eq_ret]
  unfold V332 V333 V346 V347 V354 V355
  iintro ⟨#HR, #Hl, Hc, HO, Hat⟩ HK
  iapply (wait_recv m ρ K c (1, 0) (by rfl)) $$ [Hc HO Hat]
  · isplitr; · iexact HR
    isplitr; · iexact Hl
    isplitl [Hc]; · iexact Hc
    isplitl [HO]; · iexact HO
    iexact Hat
  iintro ⟨HO, Hz, Hcm⟩
  iapply (load_cm m ρ c (1, 0) 0) $$ Hcm
  iintro Hcm
  iapply (load_cm m ρ c (1, 0) 1) $$ Hcm
  iintro Hcm
  iapply (run_ret c _)
  iapply HK
  isplitl [HO]; · iexact HO
  isplitl [Hz]; · iexact Hz
  iexact Hcm

/-- The landing of (1, 1) waited for, and loaded. -/
theorem part14 {Kt : _ → sProp 𝕄} (v203 : BitVec 32) :
    iprop(records m ρ K ∗ levAts L lv ∗ cred (tallyAt (recvCell c (1, 1)) () N) ∗ ow c [] ∗ atPos ER (recvCell c (1, 1)) 0 ∅ 0)
      ⊢ iprop(((ow c [] ∗ semVal (recvCell c (1, 1)) 0 ∗ cmPts c (1, 1) (cmAt m ρ c)) -∗ Kt ⟨V362 (inp m ρ c), V363 (inp m ρ c), V376 (inp m ρ c), V377 (inp m ρ c), V381 (inp m ρ c), V384 (inp m ρ c)⟩)
        -∗ run c (k0_part14 qB (Memref.isWhole_whole _) kB (Memref.isWhole_whole _) vB (Memref.isWhole_whole _) oB (Memref.isWhole_whole _) kvB (Memref.isWhole_whole _) cmB (Memref.isWhole_whole _) cc0_scratch2 cc0_scratch3 (V120 (inp m ρ c)) (V125 (inp m ρ c)) v203 (V332 (inp m ρ c)) (V333 (inp m ρ c)) (V346 (inp m ρ c)) (V347 (inp m ρ c)) (V354 (inp m ρ c)) (constant S1024x1024 .f32 0x00000000#32)) Kt) := by
  simp only [k0_part14_eq_skeleton]; unfold k0_part14_skel
  simp only [Prog.lift, Prog.bind_op, Prog.bind_ret, Prog.pure_eq_ret]
  unfold V362 V363 V376 V377 V381 V384
  iintro ⟨#HR, #Hl, Hc, HO, Hat⟩ HK
  iapply (wait_recv m ρ K c (1, 1) (by rfl)) $$ [Hc HO Hat]
  · isplitr; · iexact HR
    isplitr; · iexact Hl
    isplitl [Hc]; · iexact Hc
    isplitl [HO]; · iexact HO
    iexact Hat
  iintro ⟨HO, Hz, Hcm⟩
  iapply (load_cm m ρ c (1, 1) 0) $$ Hcm
  iintro Hcm
  iapply (load_cm m ρ c (1, 1) 1) $$ Hcm
  iintro Hcm
  iapply (run_ret c _)
  iapply HK
  isplitl [HO]; · iexact HO
  isplitl [Hz]; · iexact Hz
  iexact Hcm

/-- The result stored; the first chunk's transfer into slot 1 waited for. -/
theorem part15 {Kt : _ → sProp 𝕄} (X0 : Vec F S2048x256 .f32) :
    iprop(records m ρ K ∗ levAts L lv ∗ cred (tallyAt (sendCell c (1, 0)) () N) ∗ ow c [] ∗ atPos ER (sendCell c (1, 0)) 0 ∅ 0 ∗ stgPts c cc0_stg3_0 X0)
      ⊢ iprop(((ow c [] ∗ semVal (sendCell c (1, 0)) 0 ∗ kvPts c 0 fullShare (kvAt m ρ c) ∗ stgPts c cc0_stg3_0 (result (inp m ρ c))) -∗ Kt ⟨⟩)
        -∗ run c (k0_part15 qB (Memref.isWhole_whole _) kB (Memref.isWhole_whole _) vB (Memref.isWhole_whole _) oB (Memref.isWhole_whole _) kvB (Memref.isWhole_whole _) cmB (Memref.isWhole_whole _) cc0_scratch2 cc0_scratch3 (V125 (inp m ρ c)) (V355 (inp m ρ c)) (V362 (inp m ρ c)) (V363 (inp m ρ c)) (V376 (inp m ρ c)) (V377 (inp m ρ c)) (V381 (inp m ρ c)) (V384 (inp m ρ c))) Kt) := by
  simp only [k0_part15_eq_skeleton]; unfold k0_part15_skel
  simp only [Prog.lift, Prog.bind_op, Prog.bind_ret, Prog.pure_eq_ret]
  iintro ⟨#HR, #Hl, Hc, HO, Hat, Ho⟩ HK
  iapply (load_o c 0 X0) $$ Ho
  iintro Ho
  iapply (store_o c 0 X0 (Out0 (inp m ρ c))) $$ Ho
  iintro Ho
  iapply (load_o c 1 _) $$ Ho
  iintro Ho
  iapply (store_o c 1 _ (Out1 (inp m ρ c))) $$ Ho
  iintro Ho
  ihave Ho := (Entails.of_eq (congrArg (stgPts c cc0_stg3_0) (write_o X0 (Out0 (inp m ρ c)) (Out1 (inp m ρ c))))) $$ Ho
  iapply (wait_send m ρ K c (1, 0) [] (by decide) (by rfl)) $$ [Hc HO Hat]
  · isplitr; · iexact HR
    isplitr; · iexact Hl
    isplitl [Hc]; · iexact Hc
    isplitl [HO]; · iexact HO
    iexact Hat
  iintro ⟨HO, Hz, H0⟩
  iapply (run_ret c _)
  iapply HK
  isplitl [HO]; · iexact HO
  isplitl [Hz]; · iexact Hz
  isplitl [H0]; · iexact H0
  iexact Ho

/-- A sequence: its first part, then the rest. -/
theorem run_bind {α β : Type} {Q : β → sProp 𝕄} (p : Prog (TpuEff nD τ sig (Elt F) Λ₀ .tc) α) (k : α → Prog (TpuEff nD τ sig (Elt F) Λ₀ .tc) β) :
    run c p (fun a => run c (k a) Q) ⊢ run c (p >>= k) Q := by
  unfold run; rw [wp_bind]

set_option maxHeartbeats 800000 in
/-- The whole body: the result stored, the chunks and the slots filled, every cell closed, nothing owed. -/
theorem whole {Kt : PUnit → sProp 𝕄} (f0 : Buf (Elt F) ((c : Thread nD τ).loc cc0_scratch0)) (f1 : Buf (Elt F) ((c : Thread nD τ).loc cc0_scratch1))
    (X0 : Vec F S2048x256 .f32) :
    iprop(records m ρ K ∗ levAts L lv ∗ ow c allPays ∗ linear c ∗ credits c ∗ kvWhole c f0 ∗ cmWhole c f1
        ∗ stgPts c cc0_stg0_0 (inp m ρ c).q ∗ stgPts c cc0_stg1_0 (kst m ρ c) ∗ stgPts c cc0_stg2_0 (vst m ρ c) ∗ stgPts c cc0_stg3_0 X0)
      ⊢ iprop(((ow c [] ∗ Φ₁ m ρ c ∗ stgPts c cc0_stg0_0 (inp m ρ c).q ∗ stgPts c cc0_stg1_0 (kst m ρ c) ∗ stgPts c cc0_stg2_0 (vst m ρ c)
            ∗ stgPts c cc0_stg3_0 (result (inp m ρ c))) -∗ Kt ⟨⟩)
        -∗ run c (cc0_body qB (Memref.isWhole_whole _) kB (Memref.isWhole_whole _) vB (Memref.isWhole_whole _) oB (Memref.isWhole_whole _) kvB (Memref.isWhole_whole _) cmB (Memref.isWhole_whole _) cc0_scratch2 cc0_scratch3) Kt) := by
  simp only [cc0_body_eq_skeleton]; unfold cc0_body_skel
  unfold linear poss payToks credits
  iintro ⟨#HR, #Hl, HO, ⟨⟨HaB, HaS, HaV⟩, HtB, HtS, HtV⟩, ⟨HcB, HcV⟩, Hkv, Hcm, Hq, Hk, Hv, Ho⟩ HK
  ihave HaS := (Entails.of_eq (bigSep_X _)) $$ HaS
  icases HaS with ⟨HaS00, HaS01, HaS10, HaS11, HaS20, HaS21⟩
  ihave HaV := (Entails.of_eq (bigSep_X _)) $$ HaV
  icases HaV with ⟨HaV00, HaV01, HaV10, HaV11, HaV20, HaV21⟩
  ihave HtS := (Entails.of_eq (bigSep_X _)) $$ HtS
  icases HtS with ⟨HtS00, HtS01, HtS10, HtS11, HtS20, HtS21⟩
  ihave HtV := (Entails.of_eq (bigSep_X _)) $$ HtV
  icases HtV with ⟨HtV00, HtV01, HtV10, HtV11, HtV20, HtV21⟩
  ihave HcV := (Entails.of_eq (bigSep_X _)) $$ HcV
  icases HcV with ⟨HcV00, HcV01, HcV10, HcV11, HcV20, HcV21⟩
  ihave Hkv := (Entails.of_eq (kv_split c fullShare f0)) $$ Hkv
  icases Hkv with ⟨Hkv0, Hkv1⟩
  iapply (run_bind c _ _)
  iapply (part1 m ρ K c f1 f0) $$ [HO HaB HcB HtB Hcm Hk Hkv0]
  · isplitr; · iexact HR
    isplitr; · iexact Hl
    isplitl [HO]; · iexact HO
    isplitl [HaB]; · iexact HaB
    isplitl [HcB]; · iexact HcB
    isplitl [HtB]; · iexact HtB
    isplitl [Hcm]; · iexact Hcm
    isplitl [Hk]; · iexact Hk
    iexact Hkv0
  iintro %v2 %v26 ⟨HO, HzB, Hb0, Hb1, Hb2, Hk, Hkv0⟩
  try dsimp only
  unfold barPay
  icases Hb0 with ⟨Hd00, Hd01⟩
  icases Hb1 with ⟨Hd10, Hd11⟩
  icases Hb2 with ⟨Hd20, Hd21⟩
  iapply (run_bind c _ _)
  iapply (part2 m ρ K c f0 [.inr (2, 0), .inr (0, 1), .inr (2, 1), .inr (1, 0), .inr (1, 1)] v2 v26) $$ [HO HtS00 HtV00 Hd00 Hv Hkv0]
  · isplitr; · iexact HR
    isplitl [HO]; · iexact HO
    isplitl [HtS00]; · iexact HtS00
    isplitl [HtV00]; · iexact HtV00
    isplitl [Hd00]; · iexact Hd00
    isplitl [Hv]; · iexact Hv
    iexact Hkv0
  iintro %r2 ⟨HO, Hs00, Hv, Hkv0, Hm0⟩
  try dsimp only
  iapply (run_bind c _ _)
  iapply (part3 m ρ K c f0 [.inr (0, 1), .inr (2, 1), .inr (1, 0), .inr (1, 1)] _) $$ [HO HtS20 HtV20 Hd20 Hkv0 Hk Hv Hkv1]
  · isplitr; · iexact HR
    isplitl [HO]; · iexact HO
    isplitl [HtS20]; · iexact HtS20
    isplitl [HtV20]; · iexact HtV20
    isplitl [Hd20]; · iexact Hd20
    isplitl [Hkv0]; · iexact Hkv0
    isplitl [Hk]; · iexact Hk
    isplitl [Hv]; · iexact Hv
    iexact Hkv1
  iintro ⟨HO, Hs20, Hk, Hv, Hkv1⟩
  try dsimp only
  iapply (run_bind c _ _)
  iapply (part4 m ρ K c f0 [.inr (2, 1), .inr (1, 0), .inr (1, 1)] v2) $$ [HO HtS01 HtV01 Hd01 Hkv1]
  · isplitr; · iexact HR
    isplitl [HO]; · iexact HO
    isplitl [HtS01]; · iexact HtS01
    isplitl [HtV01]; · iexact HtV01
    isplitl [Hd01]; · iexact Hd01
    iexact Hkv1
  iintro %r4 ⟨HO, Hs01, Hkv1, Hm1⟩
  try dsimp only
  iapply (run_bind c _ _)
  iapply (part5 m ρ K c pays2) $$ [HO HtS21 HtV21 Hd21 Hkv1 Hq Hm0]
  · isplitr; · iexact HR
    isplitl [HO]; · iexact HO
    isplitl [HtS21]; · iexact HtS21
    isplitl [HtV21]; · iexact HtV21
    isplitl [Hd21]; · iexact Hd21
    isplitl [Hkv1]; · iexact Hkv1
    isplitl [Hq]; · iexact Hq
    iexact Hm0
  iintro ⟨HO, Hs21, Hq, Hm0⟩
  try dsimp only
  iapply (run_bind c _ _)
  iapply (part6 m ρ K c) $$ [Hs00 HO HaS00 Hm1]
  · isplitr; · iexact HR
    isplitr; · iexact Hl
    isplitl [Hs00]; · iexact Hs00
    isplitl [HO]; · iexact HO
    isplitl [HaS00]; · iexact HaS00
    iexact Hm1
  iintro ⟨HO, HzS00, Hp00, Hm1⟩
  try dsimp only
  iapply (run_bind c _ _)
  iapply (part7 m ρ K c) $$ [HO Hs01 Hs20 Hs21 HaS01 HaS20 HaS21]
  · isplitr; · iexact HR
    isplitr; · iexact Hl
    isplitl [HO]; · iexact HO
    isplitl [Hs01]; · iexact Hs01
    isplitl [Hs20]; · iexact Hs20
    isplitl [Hs21]; · iexact Hs21
    isplitl [HaS01]; · iexact HaS01
    isplitl [HaS20]; · iexact HaS20
    iexact HaS21
  iintro ⟨HO, HzS01, HzS20, HzS21, Hp01, Hp20, Hp21⟩
  try dsimp only
  ihave Hkv0 := (kv_undeal c 0 (kvAt m ρ c)) $$ [Hp00 Hp20 Hm0]
  · isplitl [Hp00]; · iexact Hp00
    isplitl [Hp20]; · iexact Hp20
    iexact Hm0
  ihave Hkv1 := (kv_undeal c 1 (kvAt m ρ c)) $$ [Hp01 Hp21 Hm1]
  · isplitl [Hp01]; · iexact Hp01
    isplitl [Hp21]; · iexact Hp21
    iexact Hm1
  iapply (run_bind c _ _)
  iapply (part8 m ρ K c v2) $$ [HO HtS10 HtS11 HtV10 HtV11 Hd10 Hd11 Hkv0 Hkv1]
  · isplitr; · iexact HR
    isplitl [HO]; · iexact HO
    isplitl [HtS10]; · iexact HtS10
    isplitl [HtS11]; · iexact HtS11
    isplitl [HtV10]; · iexact HtV10
    isplitl [HtV11]; · iexact HtV11
    isplitl [Hd10]; · iexact Hd10
    isplitl [Hd11]; · iexact Hd11
    isplitl [Hkv0]; · iexact Hkv0
    iexact Hkv1
  iintro %r8 ⟨HO, Hs10, Hs11⟩
  try dsimp only
  iapply (run_bind c _ _)
  iapply (part9 m ρ K c _) $$ [HcV00 HO HaV00]
  · isplitr; · iexact HR
    isplitr; · iexact Hl
    isplitl [HcV00]; · iexact HcV00
    isplitl [HO]; · iexact HO
    iexact HaV00
  iintro ⟨HO, HzV00, Hcm00⟩
  try dsimp only
  iapply (run_bind c _ _)
  iapply (part10 m ρ K c _) $$ [HcV20 HO HaV20]
  · isplitr; · iexact HR
    isplitr; · iexact Hl
    isplitl [HcV20]; · iexact HcV20
    isplitl [HO]; · iexact HO
    iexact HaV20
  iintro ⟨HO, HzV20, Hcm20⟩
  try dsimp only
  iapply (run_bind c _ _)
  iapply (part11 m ρ K c _) $$ [HcV01 HO HaV01]
  · isplitr; · iexact HR
    isplitr; · iexact Hl
    isplitl [HcV01]; · iexact HcV01
    isplitl [HO]; · iexact HO
    iexact HaV01
  iintro ⟨HO, HzV01, Hcm01⟩
  try dsimp only
  iapply (run_bind c _ _)
  iapply (part12 m ρ K c _) $$ [HcV21 HO HaV21]
  · isplitr; · iexact HR
    isplitr; · iexact Hl
    isplitl [HcV21]; · iexact HcV21
    isplitl [HO]; · iexact HO
    iexact HaV21
  iintro ⟨HO, HzV21, Hcm21⟩
  try dsimp only
  iapply (run_bind c _ _)
  iapply (part13 m ρ K c _) $$ [HcV10 HO HaV10]
  · isplitr; · iexact HR
    isplitr; · iexact Hl
    isplitl [HcV10]; · iexact HcV10
    isplitl [HO]; · iexact HO
    iexact HaV10
  iintro ⟨HO, HzV10, Hcm10⟩
  try dsimp only
  iapply (run_bind c _ _)
  iapply (part14 m ρ K c _) $$ [HcV11 HO HaV11]
  · isplitr; · iexact HR
    isplitr; · iexact Hl
    isplitl [HcV11]; · iexact HcV11
    isplitl [HO]; · iexact HO
    iexact HaV11
  iintro ⟨HO, HzV11, Hcm11⟩
  try dsimp only
  iapply (run_bind c _ _)
  iapply (part15 m ρ K c X0) $$ [Hs10 HO HaS10 Ho]
  · isplitr; · iexact HR
    isplitr; · iexact Hl
    isplitl [Hs10]; · iexact Hs10
    isplitl [HO]; · iexact HO
    isplitl [HaS10]; · iexact HaS10
    iexact Ho
  iintro ⟨HO, HzS10, Hkv0, Ho⟩
  try dsimp only
  simp only [Prog.lift, Prog.bind_op, Prog.bind_ret, Prog.pure_eq_ret]
  iapply (wait_send m ρ K c (1, 1) [] (by decide) (by rfl)) $$ [Hs11 HO HaS11]
  · isplitr; · iexact HR
    isplitr; · iexact Hl
    isplitl [Hs11]; · iexact Hs11
    isplitl [HO]; · iexact HO
    iexact HaS11
  iintro ⟨HO, HzS11, Hkv1⟩
  iapply (run_ret c _)
  iapply HK
  isplitl [HO]; · iexact HO
  isplitr [Hq Hk Hv Ho]
  · unfold Φ₁ zeros
    isplitl [Hkv0 Hkv1]
    · iapply (Entails.of_eq (kv_split c fullShare (kvAt m ρ c)).symm)
      isplitl [Hkv0]; · iexact Hkv0
      iexact Hkv1
    isplitl [Hcm00 Hcm01 Hcm10 Hcm11 Hcm20 Hcm21]
    · iapply (Entails.of_eq ((cm_split c (cmAt m ρ c)).trans (bigSep_X _)).symm)
      isplitl [Hcm00]; · iexact Hcm00
      isplitl [Hcm01]; · iexact Hcm01
      isplitl [Hcm10]; · iexact Hcm10
      isplitl [Hcm11]; · iexact Hcm11
      isplitl [Hcm20]; · iexact Hcm20
      iexact Hcm21
    isplitl [HzB]; · iexact HzB
    isplitl [HzS00 HzS01 HzS10 HzS11 HzS20 HzS21]
    · iapply (Entails.of_eq (bigSep_X _).symm)
      isplitl [HzS00]; · iexact HzS00
      isplitl [HzS01]; · iexact HzS01
      isplitl [HzS10]; · iexact HzS10
      isplitl [HzS11]; · iexact HzS11
      isplitl [HzS20]; · iexact HzS20
      iexact HzS21
    iapply (Entails.of_eq (bigSep_X _).symm)
    isplitl [HzV00]; · iexact HzV00
    isplitl [HzV01]; · iexact HzV01
    isplitl [HzV10]; · iexact HzV10
    isplitl [HzV11]; · iexact HzV11
    isplitl [HzV20]; · iexact HzV20
    iexact HzV21
  isplitl [Hq]; · iexact Hq
  isplitl [Hk]; · iexact Hk
  isplitl [Hv]; · iexact Hv
  iexact Ho

end Cert.GatherProof

end
-- ==== Proof.Run.lean ====
/- The run of the whole program: the body put in the pipeline that stages its blocks, the protocol's ghost state dealt to
   the devices at launch, and what every weakly fair execution ends with. -/
module

public import proofs.«01_k».proof.Proof.Body
public import proofs.«01_k».proof.Proof.Gen.KernelIdeal.Points
public import Idealize.ShloMosaic.Lib.Pipeline.CollectiveSegs

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body in the pipeline -/

/-- What device `c`'s staging buffers and its body's resources are before and after the one grid point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qst m ρ c
    | ⟨1, _⟩ => kst m ρ c
    | ⟨2, _⟩ => vst m ρ c
    | ⟨3, _⟩ => result (inp m ρ c)
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
/-- Ownership of a whole staging buffer, unfolded. -/
theorem owns_stage (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ stgPts c b f) := by
  unfold owns; simp only [Memref.view_whole, View.read_whole, View.set_whole]

abbrev staged (c : Dev nD) (b : Ref sig .tc) (Y : b.ty.Contents (Elt F)) : sProp 𝕄 :=
  iprop(∃ f : Buf (Elt F) ((c : Thread nD τ).loc b), ⌜f = Y⌝ ∗ stgPts c b f)

def pre (c : Dev nD) : sProp 𝕄 :=
  iprop(Φ₀ m ρ c ∗ (dats m ρ 0 c).owesAt () t0_0.castSucc
    ∗ (∃ d, staged c cc0_stg0_0 ((dats m ρ 0 c).before (0 : Fin 4) t0_0 d))
    ∗ (∃ d, staged c cc0_stg1_0 ((dats m ρ 0 c).before (1 : Fin 4) t0_0 d))
    ∗ (∃ d, staged c cc0_stg2_0 ((dats m ρ 0 c).before (2 : Fin 4) t0_0 d))
    ∗ (∃ d, staged c cc0_stg3_0 ((dats m ρ 0 c).before (3 : Fin 4) t0_0 d)))
def post (c : Dev nD) : sProp 𝕄 :=
  iprop(Φ₁ m ρ c ∗ (dats m ρ 0 c).owesAt () t0_0.succ
    ∗ staged c cc0_stg0_0 (qst m ρ c) ∗ staged c cc0_stg1_0 (kst m ρ c) ∗ staged c cc0_stg2_0 (vst m ρ c) ∗ staged c cc0_stg3_0 (result (inp m ρ c)))

/-- The body from what the pipeline hands it to what the pipeline expects back. -/
theorem staged_body (c : Dev nD) :
    pre m ρ c ⊢ run c (cc0_body qB (Memref.isWhole_whole _) kB (Memref.isWhole_whole _) vB (Memref.isWhole_whole _) oB (Memref.isWhole_whole _)
      kvB (Memref.isWhole_whole _) cmB (Memref.isWhole_whole _) cc0_scratch2 cc0_scratch3) (fun _ => post m ρ c) := by
  unfold pre Φ₀ start
  iintro ⟨⟨⟨⟨%K, #HR, Hlin⟩, Hcr, #Hl⟩, ⟨%f0, Hkv⟩, ⟨%f1, Hcm⟩⟩, Ho, ⟨%d0, %g0, %hg0, Hq⟩, ⟨%d1, %g1, %hg1, Hk⟩, ⟨%d2, %g2, %hg2, Hv⟩, ⟨%d3, %g3, %hg3, Hout⟩⟩
  have h0 : g0 = (inp m ρ c).q := by rw [hg0]; unfold Dat.before; rw [if_pos (fetch0_0 t0_0)]; rfl
  have h1 : g1 = kst m ρ c := by rw [hg1]; unfold Dat.before; rw [if_pos (fetch0_1 t0_0)]; rfl
  have h2 : g2 = vst m ρ c := by rw [hg2]; unfold Dat.before; rw [if_pos (fetch0_2 t0_0)]; rfl
  subst h0 h1 h2
  unfold Dat.owesAt Pipeline.owesWithin
  icases Ho with ⟨%W, %hW, HO⟩
  iapply (whole m ρ K c f0 f1 g3) $$ [HO Hlin Hcr Hkv Hcm Hq Hk Hv Hout]
  · isplitr; · iexact HR
    isplitr; · iexact Hl
    isplitl [HO]; · unfold ow; iexists W; iexact HO
    isplitl [Hlin]; · iexact Hlin
    isplitl [Hcr]; · iexact Hcr
    isplitl [Hkv]; · iexact Hkv
    isplitl [Hcm]; · iexact Hcm
    isplitl [Hq]; · iexact Hq
    isplitl [Hk]; · iexact Hk
    isplitl [Hv]; · iexact Hv
    iexact Hout
  unfold ow post Dat.owesAt Pipeline.owesWithin
  iintro ⟨⟨%W', HO⟩, HΦ, Hq, Hk, Hv, Hout⟩
  isplitl [HΦ]; · iexact HΦ
  isplitl [HO]
  · iexists W'
    isplitr; · ipureintro; exact fun _ _ => Or.inl trivial
    iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists _; isplitr; · (ipureintro; rfl)
  iexact Hout

set_option maxRecDepth 8000 in
/-- The pipeline's obligation on the body. -/
theorem body_obligation (c : Dev nD) : BodyObligation (dats (F := F) m ρ 0 c) (defs₀ (F := F)) 𝒱₀ () Set.univ := fun t => by
  rw [fin_N0 t]
  rw [bigSep_W0, bigSep_W0]
  simp only [owns_stage]
  exact staged_body m ρ c

/-! ## The launch: the protocol's ghost state minted and dealt -/

/-- The kernel's own semaphores: the two sides of the six transfers. -/
abbrev osem (y : Bool × X) : SemLoc sig := csem (some y)

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- Device `c`'s cells' duties: its barrier's three, and one for each side of each transfer. -/
abbrev TK : Type := Fin 3 ⊕ (Bool × X)
def tokOf (ct : Dev nD × TK) : GSem nD τ sig × ℕ × Fin 3 :=
  match ct.2 with
  | .inl j => (barCell ct.1, 0, j)
  | .inr y => (kcell (ct.1, some y), 0, 0)
theorem tokOf_injective : Function.Injective tokOf := by
  rintro ⟨c, j | y⟩ ⟨c', j' | y'⟩ h
  · have h1 := kcell_injective (congrArg Prod.fst h)
    have h2 : j = j' := congrArg (fun t : GSem nD τ sig × ℕ × Fin 3 => t.2.2) h
    exact Prod.ext (Prod.mk.inj h1).1 (congrArg Sum.inl h2)
  · exact absurd (Prod.mk.inj (kcell_injective (congrArg Prod.fst h))).2 (fun e => nomatch e)
  · exact absurd (Prod.mk.inj (kcell_injective (congrArg Prod.fst h))).2 (fun e => nomatch e)
  · have h1 := Prod.mk.inj (kcell_injective (congrArg Prod.fst h))
    exact Prod.ext h1.1 (congrArg Sum.inr (Option.some.inj h1.2))
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun j : Fin 3 => dutyTok ER (barCell c) 0 j) ∗ bigSep Finset.univ fun y : Bool × X => dutyTok ER (kcell (c, some y)) 0 0)

/-- What the launch deals device `c`: -/
def G (c : Dev nD) : sProp 𝕄 :=
  iprop((bigSep Finset.univ fun k : CK => roundState ER (rd m ρ) (kcell (c, k)) 0)
    ∗ (bigSep Finset.univ fun k : CK => iprop(atPos ER (kcell (c, k)) 0 ∅ 0 ∗ reached ER (kcell (c, k)) 0)) ∗ toks c)
/-- and what becomes of it once the cells' invariants stand. -/
def G' (c : Dev nD) : sProp 𝕄 := iprop(∃ K, records m ρ K ∗ linear c)

omit [FloatOps F] in
/-- A family over the cells of a device: the barrier's, the sending sides', the receiving sides'. -/
theorem bigSep_CK (Φ : CK → sProp 𝕄) :
    bigSep Finset.univ Φ = iprop(Φ none ∗ (bigSep Finset.univ fun x : X => Φ (some (false, x))) ∗ bigSep Finset.univ fun x : X => Φ (some (true, x))) := by
  rw [bigSep_univ_equiv (Equiv.optionEquivSumPUnit.{0} (Bool × X)).symm, bigSep_univ_sum, bigSep_univ_prod,
    bigSep_univ_eq_bigSepL [false, true] (by decide) (by decide), bigSep_univ_eq_bigSepL (I := PUnit.{1}) [PUnit.unit] (by decide) (by decide),
    bigSepL_cons_cons, bigSepL_singleton, bigSepL_singleton]
  exact BI.Entails.antisymm BI.sep_comm BI.sep_comm
omit [FloatOps F] in
theorem bigSep_BX (Φ : Bool × X → sProp 𝕄) :
    bigSep Finset.univ Φ = iprop((bigSep Finset.univ fun x : X => Φ (false, x)) ∗ bigSep Finset.univ fun x : X => Φ (true, x)) := by
  rw [bigSep_univ_prod, bigSep_univ_eq_bigSepL [false, true] (by decide) (by decide), bigSepL_cons_cons, bigSepL_singleton]
  rfl

/-- The initial ghost state splits into what each device starts with. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun x : X => semVal (sendCell c x) 0) ∗ bigSep Finset.univ fun x : X => semVal (recvCell c x) 0) := by
  unfold Pipeline.ownSems0; exact bigSep_BX _
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  exact BI.sep_comm

/-- Every cell's invariant of one device. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over devices and an index, each index's members moved along a permutation of the devices. -/
theorem moved {J : Type} [Fintype J] (e : J → Dev nD ≃ Dev nD) (Φ : Dev nD → J → sProp 𝕄) :
    (bigSep Finset.univ fun c : Dev nD => bigSep Finset.univ fun j : J => Φ c j)
      = bigSep Finset.univ fun c : Dev nD => bigSep Finset.univ fun j : J => Φ (e j c) j := by
  rw [← bigSep_univ_prod (fun p : Dev nD × J => Φ p.1 p.2), ← bigSep_univ_prod (fun p : Dev nD × J => Φ (e p.2 p.1) p.2)]
  exact bigSep_univ_equiv ⟨fun p => (e p.2 p.1, p.2), fun p => ((e p.2).symm p.1, p.2),
    fun p => by simp, fun p => by simp⟩ (fun p : Dev nD × J => Φ p.1 p.2)

omit [FloatOps F] in
/-- Each token goes to the device that makes the payment. -/
theorem toks_around : (bigSep Finset.univ fun c : Dev nD => (toks c : sProp 𝕄)) ⊢ bigSep Finset.univ fun c : Dev nD => payToks c := by
  have h (c : Dev nD) : (toks c : sProp 𝕄) = iprop((bigSep Finset.univ fun j : Fin 3 => dutyTok ER (barCell c) 0 j)
      ∗ (bigSep Finset.univ fun x : X => dutyTok ER (sendCell c x) 0 0) ∗ bigSep Finset.univ fun x : X => dutyTok ER (recvCell c x) 0 0) := by
    unfold toks; rw [bigSep_BX]
  rw [bigSep_congr fun c _ => h c]
  unfold payToks
  rw [bigSep_sep', bigSep_sep', bigSep_sep', bigSep_sep',
    moved (fun j : Fin 3 => (around j).symm) (fun c j => (dutyTok ER (barCell c) 0 j : sProp 𝕄)),
    moved (fun x : X => around x.1) (fun c x => (dutyTok ER (recvCell c x) 0 0 : sProp 𝕄))]
  exact BI.Entails.refl _

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m ρ) κ (kcell ck) : sProp 𝕄))) $$ HI
  icases HK with ⟨%K, #HI⟩
  ihave Htk := (toks_around (F := F)) $$ Htok
  iapply (with_persistent (R := records m ρ K) (Φ := fun c => linear c) fun c _ => by
    unfold G'; iintro ⟨#H, Hl⟩; iexists K; isplitr; · iexact H
    iexact Hl)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear poss; rw [bigSep_CK])))
    isplitl [Hat]; · iexact Hat
    iexact Htk

/-- The invariants of every device's cells, at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The credit the devices' debts make -/

theorem owedL_apply (c : Dev nD) (l : List Pay) (g : GSem nD τ sig) :
    owedL c l g () = (l.map fun p => if g = payCell c p then payAmt p else 0).sum := by
  induction l with
  | nil => rfl
  | cons p l ih =>
    show owedL c l g () + tallyAt (payCell c p) () (payAmt p) g () = _
    rw [ih, tallyAt_apply, List.map_cons, List.sum_cons, Nat.add_comm]
    congr 1
    exact if_congr (and_iff_left rfl) rfl rfl

theorem bar_pay (c d : Dev nD) (p : Pay) : (if barCell c = payCell d p then payAmt p else 0) = match p with | .inl j => if c = src j d then 1 else 0 | .inr _ => 0 := by
  cases p with
  | inl j => exact if_congr ⟨fun h => (Prod.mk.inj (kcell_injective h)).1, fun h => by rw [h]; rfl⟩ rfl rfl
  | inr x => exact if_neg fun h => nomatch (Prod.mk.inj (kcell_injective (show kcell (c, none) = kcell (tgt x.1 d, some (true, x)) from h))).2
theorem recv_pay (c d : Dev nD) (x : X) (p : Pay) :
    (if recvCell c x = payCell d p then payAmt p else 0) = if p = .inr x then (if d = src x.1 c then N else 0) else 0 := by
  cases p with
  | inl j =>
    rw [if_neg fun h : (Sum.inl j : Pay) = .inr x => nomatch h]
    exact if_neg fun h => nomatch (Prod.mk.inj (kcell_injective (show kcell (c, some (true, x)) = kcell (src j d, none) from h))).2
  | inr y =>
    by_cases hy : y = x
    · subst hy
      rw [if_pos rfl]
      exact if_congr ⟨fun h => by rw [(Prod.mk.inj (kcell_injective (show kcell (c, some (true, y)) = kcell (tgt y.1 d, some (true, y)) from h))).1, src_tgt],
        fun h => by rw [h]; show kcell (c, some (true, y)) = kcell (tgt y.1 (src y.1 c), some (true, y)); rw [tgt_src]⟩ rfl rfl
    · rw [if_neg fun h : (Sum.inr y : Pay) = .inr x => hy (Sum.inr.inj h)]
      exact if_neg fun h => hy (Prod.mk.inj (Option.some.inj (Prod.mk.inj (kcell_injective (show kcell (c, some (true, x)) = kcell (tgt y.1 d, some (true, y)) from h))).2)).2.symm

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same,
    Finset.sum_congr rfl fun d _ => (show O₀ d (barCell c) () = _ from (owedL_apply d allPays (barCell c)).trans
      (congrArg List.sum (List.map_congr_left fun p _ => bar_pay c d p)))]
  revert c; decide

theorem launch_recv (c : Dev nD) (x : X) :
    tallyOn (recvCell c x) (launchCredit (Pipeline.owing O₀) 0 (recvCell c x)) = (tallyAt (recvCell c x) () N : CellTallies nD τ sig Unit) := by
  unfold tallyAt; refine congrArg _ (Finsupp.ext fun u => ?_); cases u
  have hs (n : ℕ) : (allPays.map fun p => if p = .inr x then n else 0).sum = n := by
    obtain ⟨a, b⟩ := x
    fin_cases a <;> fin_cases b <;> simp [allPays]
  rw [Pipeline.launchCredit_owing, Finsupp.single_eq_same,
    Finset.sum_congr rfl fun d _ => (show O₀ d (recvCell c x) () = _ from (owedL_apply d allPays (recvCell c x)).trans
      ((congrArg List.sum (List.map_congr_left fun p _ => recv_pay c d x p)).trans (hs _))),
    Finset.sum_ite_eq' Finset.univ (src x.1 c) fun _ => N, if_pos (Finset.mem_univ _)]

omit [FloatOps F] in
theorem recvSem_injective : Function.Injective fun x : X => csem (some (true, x)) := fun a b h =>
  (Prod.mk.inj (Option.some.inj (csem_injective h))).2

omit [FloatOps F] in
theorem creds (c : Dev nD) : (Pipeline.launchCred O₀ c : sProp 𝕄) ⊢ credits c := by
  unfold Pipeline.launchCred credits
  rw [bigSep_univ_at _ (csem none)]
  refine BI.sep_mono (Entails.of_eq (congrArg cred (launch_bar c))) ?_
  have hsub : Finset.univ.map ⟨fun x : X => csem (some (true, x)), recvSem_injective⟩ ⊆ Finset.univ.erase (csem none) := fun s hs => by
    obtain ⟨x, -, hx⟩ := Finset.mem_map.mp hs
    refine Finset.mem_erase.mpr (And.intro (fun h => ?_) (Finset.mem_univ _))
    have h' : csem (some (true, x)) = csem none := hx.trans h
    exact nomatch csem_injective h'
  refine (bigSep_subset hsub).trans ?_
  rw [bigSep_map]
  exact bigSep_mono fun x _ => Entails.of_eq (congrArg cred (launch_recv c x))

/-! ### What the launch theorem asks for -/

/-- What a device is given at launch is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The body's precondition, from the launch's resources and the two scratch buffers. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- The body's postcondition gives the scratch buffers and the zero counters back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ zeros
  iintro ⟨Hkv, Hcm, HzB, HzX⟩
  isplitl [HzB]; · iexact HzB
  isplitl [HzX]; · iexact HzX
  isplitl [Hkv]; · iexists (kvAt m ρ c); iexact Hkv
  iexists (cmAt m ρ c); iexact Hcm

/-- The pipeline's own waits are below everything a device owes. -/
theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), .dma ((cfg0.win w).sem s)) () ≤ 0 := by
      revert w s; revert c; decide
    rcases t with ⟨_ | _, ht⟩
    · exact mayWait c _ allPays 0 hlv (by decide)
    · exact mayWait c _ [] 0 hlv (fun p hp => absurd hp List.not_mem_nil)

/-! ## The run -/

/-- What array `w` of device `c` holds when the program ends. -/
def finalA (c : Dev nD) (w : Fin cfg0.W) : Buf (Elt F) ((cfg0.win w).arr.view.loc (c : Thread nD τ)) := (dats m ρ 0 c).arrAt w cfg0.N

/-- Every device's four arrays at `finalA`. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the four devices' program
    terminates, each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they began. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.GatherProof

end
-- ==== Proof.Quant.lean ====
/- The int8 code of one number: scaled by 127/4, clipped to [-127, 127], rounded to the nearest integer, ties to even.
   Whatever the number, the clipped value is a real, so its code is an integer that a signed byte holds exactly. -/
module

public import Idealize.ShloMosaic.PureOps.Ideal
public import Idealize.ShloMosaic.PureOps.Ideal.Laws

@[expose] public section

noncomputable section

namespace Cert.GatherProof

open Idealize.ShloMosaic

/-! ## The constants -/

/-- What one code step is worth: the f32 nearest 4/127. -/
def step : ℝ := 8454660 / 2 ^ 28

/-- The step is positive. -/
theorem step_pos : 0 < step := by unfold step; positivity
/-- The literals of the two programs, as the numbers they are: the quantiser's gain, its two ends, its step. -/
theorem const_gain : Ideal.ofBits .f32 0x41FE0000#32 = ((127 / 4 : ℝ) : EReal) := by
  simp [Ideal.ofBits, Ideal.ieee, -EReal.coe_mul]; norm_num
theorem const_low : Ideal.ofBits .f32 0xC2FE0000#32 = ((-127 : ℝ) : EReal) := by
  simp [Ideal.ofBits, Ideal.ieee, -EReal.coe_mul, -EReal.coe_neg]; norm_num
theorem const_high : Ideal.ofBits .f32 0x42FE0000#32 = ((127 : ℝ) : EReal) := by
  simp [Ideal.ofBits, Ideal.ieee, -EReal.coe_mul]; norm_num
theorem const_step : Ideal.ofBits .f32 0x3D010204#32 = ((step : ℝ) : EReal) := by
  unfold step
  simp [Ideal.ofBits, Ideal.ieee, -EReal.coe_mul]; norm_num
/-- The kernel's scale of the queries is exactly a sixteenth of one code step. -/
theorem const_scale : Ideal.ofBits .f32 0x3B010204#32 = ((step / 16 : ℝ) : EReal) := by
  unfold step
  simp [Ideal.ofBits, Ideal.ieee, -EReal.coe_mul]; norm_num
/-- The head width; after it the two infinities. -/
theorem const_width : Ideal.ofBits .f32 0x43800000#32 = ((256 : ℝ) : EReal) := by
  simp [Ideal.ofBits, Ideal.ieee, -EReal.coe_mul]; norm_num
theorem const_bot : Ideal.ofBits .f32 0xFF800000#32 = ⊥ := by simp [Ideal.ofBits, Ideal.ieee]
theorem const_top : Ideal.ofBits .f32 0x7F800000#32 = ⊤ := by simp [Ideal.ofBits, Ideal.ieee]

/-- The square root of the head width, 256. -/
theorem sqrt_width : Ideal.sqrt ((256 : ℝ) : EReal) = ((16 : ℝ) : EReal) := by
  show (if (256 : ℝ) < 0 then (⊥ : EReal) else (Real.sqrt 256 : EReal)) = _
  rw [if_neg (by norm_num), show (256 : ℝ) = 16 ^ 2 by norm_num, Real.sqrt_sq (by norm_num)]

/-! ## The code -/

/-- The number scaled and clipped. -/
def clip (x : EReal) : EReal := min ((127 : ℝ) : EReal) (max ((-127 : ℝ) : EReal) (x * ((127 / 4 : ℝ) : EReal)))
/-- Its code. -/
def code (x : EReal) : ℤ := Ideal.roundHalfEven (clip x).toReal

/-- A clipped number is at most 127, and at least -127. -/
theorem clip_le (x : EReal) : clip x ≤ ((127 : ℝ) : EReal) := min_le_left _ _
theorem le_clip (x : EReal) : ((-127 : ℝ) : EReal) ≤ clip x :=
  le_min (EReal.coe_le_coe_iff.mpr (by norm_num)) (le_max_left _ _)
/-- The clipped number is a real. -/
theorem clip_real (x : EReal) : clip x = ((clip x).toReal : EReal) :=
  (EReal.coe_toReal (ne_top_of_le_ne_top (EReal.coe_ne_top _) (clip_le x))
    (ne_bot_of_le_ne_bot (EReal.coe_ne_bot _) (le_clip x))).symm
/-- The same of it as a real. -/
theorem clip_bounds (x : EReal) : -127 ≤ (clip x).toReal ∧ (clip x).toReal ≤ 127 := by
  have h1 := le_clip x
  have h2 := clip_le x
  rw [clip_real x] at h1 h2
  exact ⟨EReal.coe_le_coe_iff.mp h1, EReal.coe_le_coe_iff.mp h2⟩

/-- Rounding the clipped number gives the code. -/
theorem round_clip (x : EReal) : Ideal.liftRound Ideal.roundHalfEven (clip x) = ((code x : ℝ) : EReal) := by
  unfold code
  rw [clip_real x]
  rfl

/-- Rounding to nearest keeps a number between two integers between them. -/
theorem roundHalfEven_bounds {r : ℝ} (a b : ℤ) (ha : (a : ℝ) ≤ r) (hb : r ≤ b) :
    a ≤ Ideal.roundHalfEven r ∧ Ideal.roundHalfEven r ≤ b := by
  have hf : (⌊r⌋ : ℝ) ≤ r := Int.floor_le r
  have h1 : a ≤ ⌊r⌋ := Int.le_floor.mpr ha
  have h2 : ⌊r⌋ ≤ b := by exact_mod_cast hf.trans hb
  have h3 : ¬ r - ⌊r⌋ < 1 / 2 → ⌊r⌋ + 1 ≤ b := fun h => by
    have h4 : (⌊r⌋ : ℝ) < b := by linarith
    exact_mod_cast h4
  unfold Ideal.roundHalfEven
  dsimp only
  split_ifs with c1 c2 c3 <;> first | exact ⟨h1, h2⟩ | exact ⟨by omega, h3 c1⟩

/-- A code lies between -127 and 127. -/
theorem code_bounds (x : EReal) : -127 ≤ code x ∧ code x ≤ 127 :=
  roundHalfEven_bounds (-127) 127 (by exact_mod_cast (clip_bounds x).1) (by exact_mod_cast (clip_bounds x).2)

/-- A signed byte holds the code exactly. -/
theorem byte_code (x : EReal) : (Ideal.fptosi 8 ((code x : ℝ) : EReal)).toInt = code x := by
  obtain ⟨h1, h2⟩ := code_bounds x
  have e : Ideal.toIntClamped (-(2 ^ (8 - 1) : Nat)) ((2 ^ (8 - 1) : Nat) - 1) ((code x : ℝ) : EReal) = code x := by
    show max (-(2 ^ (8 - 1) : Nat) : Int) (min ((2 ^ (8 - 1) : Nat) - 1 : Int) (if (0 : ℝ) ≤ (code x : ℝ) then ⌊(code x : ℝ)⌋ else ⌈(code x : ℝ)⌉)) = _
    rw [Int.floor_intCast, Int.ceil_intCast, ite_self]
    norm_num
    omega
  unfold Ideal.fptosi
  rw [e, BitVec.toInt_ofInt]
  exact Int.bmod_eq_of_le (by norm_num; omega) (by norm_num; omega)

/-! ## Reals among the extended reals -/

/-- A sum of reals. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- A quotient of reals by a positive one. -/
theorem div_real (x : ℝ) {y : ℝ} (hy : 0 < y) : Ideal.div ((x : ℝ) : EReal) ((y : ℝ) : EReal) = ((x / y : ℝ) : EReal) := by
  unfold Ideal.div
  rw [if_neg (by exact_mod_cast hy.ne'), ← EReal.coe_inv, ← EReal.coe_mul, div_eq_mul_inv]

end Cert.GatherProof

end
-- ==== Proof.Finite.lean ====
/- What the precondition says: every query is a real number. -/
module

public import proofs.«01_k».proof.Pre_finite_queries_KernelIdeal
public import proofs.«01_k».proof.Proof.Quant
public import Idealize.ShloMosaic.Lib.Pointwise.Reduce

@[expose] public section

noncomputable section

namespace Cert.GatherProof

open Idealize.ShloMosaic

/-- A conjunction of bits is one only if each is. -/
theorem fold_andi {ι : Type} [DecidableEq ι] (s : Finset ι) (f : ι → BitVec 1) :
    s.fold IntOp.andi 1#1 f = 1#1 → ∀ i ∈ s, f i = 1#1 := by
  induction s using Finset.induction with
  | empty => exact fun _ i hi => absurd hi (Finset.notMem_empty i)
  | insert a s ha ih =>
    rw [Finset.fold_insert ha]
    have both : ∀ x y : BitVec 1, IntOp.andi x y = 1#1 → x = 1#1 ∧ y = 1#1 := by decide
    intro h i hi
    rcases Finset.mem_insert.mp hi with rfl | hi
    · exact (both _ _ h).1
    · exact ih (both _ _ h).2 i hi

/-- An extended real whose absolute value is below infinity is a real. -/
theorem real_of_abs (x : EReal) (h : max x (-x) < ⊤) : ∃ a : ℝ, x = (a : EReal) := by
  induction x with
  | bot => exact absurd h (by simp)
  | top => exact absurd h (by simp)
  | coe a => exact ⟨a, rfl⟩

/-- The precondition makes every query of a device's block a real. -/
theorem finite_real [Cert.Pre_finite_queries_KernelIdeal.Facts] (q k v : FVec Ideal ⟨2, ![2048, 256]⟩ .f32)
    (h : Cert.Pre_finite_queries_KernelIdeal.fn q k v = fun _ => 1#1) (i : (⟨2, ![2048, 256]⟩ : Shape).Idx) :
    ∃ a : ℝ, q i = (a : EReal) := by
  have h0 := congrFun h (fun a => a.elim0)
  unfold Cert.Pre_finite_queries_KernelIdeal.fn at h0
  simp only [Host.reduce_eq_fold] at h0
  have h1 := fold_andi _ _ h0 i (Finset.mem_filter.mpr ⟨Finset.mem_univ _, funext fun a => a.elim0⟩)
  have h2 : BitVec.ofBool (decide (max (q i) (-(q i)) < Ideal.ofBits .f32 0x7F800000#32)) = 1#1 := h1
  rw [const_top] at h2
  have h3 : max (q i) (-(q i)) < ⊤ := by
    by_contra hn
    rw [decide_eq_false hn] at h2
    exact absurd h2 (by decide)
  exact real_of_abs _ h3

end Cert.GatherProof

end
-- ==== Proof.Blocks.lean ====
/- What the kernel adds for one block of 1024 keys, over the extended reals: the weights of the keys (the exponentials
   of the scores), their sum, and the weighted sum of the value codes. The two halves of the result are the quotient of
   those sums over the same eight blocks. -/
module

public import proofs.«01_k».proof.Proof.Vals
public import proofs.«01_k».proof.Proof.Quant
public import Idealize.ShloMosaic.Lib.MatmulPlain
public import Idealize.ShloMosaic.Lib.Pointwise.Reduce
public import Idealize.ShloMosaic.Lib.ValueLayoutCasts

@[expose] public section

noncomputable section

namespace Cert.GatherProof

open Cert.KernelIdeal Cert.KernelIdeal.Gen
open Idealize.ShloMosaic hiding ix1 ix2 ix3 ix4 ix5
open Idealize.ShloMosaic.ValueIdx

/-! ## One block -/

/-- The weights of 1024 queries against 1024 keys. -/
def blkP (q k : FVec Ideal S1024x256 .bf16) : FVec Ideal S1024x1024 .f32 :=
  exp (matmul dot_S1024x256_S1024x256_S1024x1024_1_1_0_0_n_n none q k (constant S1024x1024 .f32 0x00000000#32))
/-- Each query's sum of them. -/
def blkL (q k : FVec Ideal S1024x256 .bf16) : FVec Ideal S1024x1 .f32 :=
  shapeCast S1024x1 (multiReduction .add [1] S1024 (blkP q k) 0x00000000#32 reduces_S1024x1024_S1024 (.inl rfl) rfl) shapeCasts_S1024_S1024x1
/-- Each query's weighted sum of the values. -/
def blkA (q k v : FVec Ideal S1024x256 .bf16) : FVec Ideal S1024x256 .f32 :=
  matmul dot_S1024x1024_S1024x256_S1024x256_1_0_0_1_n_n none (truncf .bf16 (blkP q k) bitsLt_bf16_f32) v (constant S1024x256 .f32 0x00000000#32)

/-- The scaled queries. -/
def scaled (q : Vec Ideal S1024x256 .f32) : FVec Ideal S1024x256 .bf16 :=
  truncf .bf16 (mulf (shapeCast S1024x256 q shapeCasts_S1024x256_S1024x256) (broadcast S1024x256 (Scalar.ofBits .f32 0x3B010204#32))) bitsLt_bf16_f32
/-- A block of codes, the device's own or a received one, as numbers. -/
def ownNum (x : Vec Ideal S1x1x1024x256 .i8) : FVec Ideal S1024x256 .bf16 :=
  sitofp .bf16 (shapeCast S1024x256 x shapeCasts_S1x1x1024x256_S1024x256)
/-- A received block of codes, as numbers. -/
def gotNum (x : Vec Ideal S1x1x1x1024x256 .i8) : FVec Ideal S1024x256 .bf16 :=
  sitofp .bf16 (shapeCast S1024x256 x shapeCasts_S1x1x1x1024x256_S1024x256)

/-- The eight blocks in the order the kernel takes them: keys (`w = 0`) or values (`w = 1`). -/
def blockNum (I : Inp Ideal) (w : Fin 2) : Fin 8 → FVec Ideal S1024x256 .bf16
  | 0 => ownNum (I.own 0 w)
  | 1 => ownNum (I.own 1 w)
  | 2 => gotNum (I.got (0, 0) w)
  | 3 => gotNum (I.got (2, 0) w)
  | 4 => gotNum (I.got (0, 1) w)
  | 5 => gotNum (I.got (2, 1) w)
  | 6 => gotNum (I.got (1, 0) w)
  | 7 => gotNum (I.got (1, 1) w)

/-- The weights' sum over the eight blocks. -/
def sumL (q : FVec Ideal S1024x256 .bf16) (k : Fin 8 → FVec Ideal S1024x256 .bf16) : FVec Ideal S1024x1 .f32 :=
  addf (addf (addf (addf (addf (addf (addf (blkL q (k 0)) (blkL q (k 1))) (blkL q (k 2))) (blkL q (k 3))) (blkL q (k 4))) (blkL q (k 5)))
    (blkL q (k 6))) (blkL q (k 7))
/-- The weighted values' sum over the eight blocks. -/
def sumA (q : FVec Ideal S1024x256 .bf16) (k v : Fin 8 → FVec Ideal S1024x256 .bf16) : FVec Ideal S1024x256 .f32 :=
  addf (addf (addf (addf (addf (addf (addf (blkA q (k 0) (v 0)) (blkA q (k 1) (v 1))) (blkA q (k 2) (v 2))) (blkA q (k 3) (v 3)))
    (blkA q (k 4) (v 4))) (blkA q (k 5) (v 5))) (blkA q (k 6) (v 6))) (blkA q (k 7) (v 7))
/-- The kernel's attention of 1024 queries over the eight blocks. -/
def attend (q : FVec Ideal S1024x256 .bf16) (k v : Fin 8 → FVec Ideal S1024x256 .bf16) : FVec Ideal S1024x256 .f32 :=
  divf (mulf (sumA q k v) (broadcast S1024x256 (Scalar.ofBits .f32 0x3D010204#32))) (broadcastTo S1024x256 (sumL q k) broadcasts_S1024x1_S1024x256)

/-- The first half of the result is the attention of the first half of the queries. -/
theorem Out0_eq (I : Inp Ideal) : Out0 I = attend (scaled (half 0 I.q)) (blockNum I 0) (blockNum I 1) := rfl
/-- The second half of the result is the attention of the second half of the queries. -/
theorem Out1_eq (I : Inp Ideal) : Out1 I = attend (scaled (half 1 I.q)) (blockNum I 0) (blockNum I 1) := rfl

/-! ## At an index -/

variable {q : FVec Ideal S1024x256 .bf16} {i : Fin 1024} {a : Fin 256 → ℝ} (hq : ∀ d, q (ix2 i d) = (a d : EReal))
include hq

section one
variable {k v : FVec Ideal S1024x256 .bf16} {n n' : Fin 1024 → Fin 256 → ℝ} (hk : ∀ t d, k (ix2 t d) = (n t d : EReal))
  (hv : ∀ t d, v (ix2 t d) = (n' t d : EReal))
include hk

/-- With real queries and keys a weight is the exponential of their product. -/
theorem blkP_real (t : Fin 1024) : blkP q k (ix2 i t) = ((Real.exp (∑ d, a d * n t d) : ℝ) : EReal) := by
  have e : FloatOps.matmul dot_S1024x256_S1024x256_S1024x1024_1_1_0_0_n_n none q k (constant S1024x1024 .f32 0x00000000#32) (ix2 i t)
      = ((∑ d, a d * n t d : ℝ) : EReal) := by
    refine (Ideal.matmul_transposedRhs_apply none q k _ i t).trans ?_
    rw [coe_sum]
    show Ideal.ofBits .f32 0x00000000#32 + _ = _
    rw [Ideal.ofBits_zero_f32, zero_add]
    exact Finset.sum_congr rfl fun d _ => by rw [hq, hk, EReal.coe_mul]
  show Ideal.exp _ = _
  rw [show matmul dot_S1024x256_S1024x256_S1024x1024_1_1_0_0_n_n none q k (constant S1024x1024 .f32 0x00000000#32) (ix2 i t) = _ from e]
  rfl

/-- A query's sum of the weights of one block. -/
theorem blkL_real (u : Fin 1) : blkL q k (ix2 i u) = ((∑ t, Real.exp (∑ d, a d * n t d) : ℝ) : EReal) := by
  refine (shapeCast_a_a1_apply _ shapeCasts_S1024_S1024x1 i u).trans ?_
  refine (Ideal.reduceAdd_r2_a1 reduces_S1024x1024_S1024 (blkP q k) (ix1 i)).trans ?_
  rw [coe_sum]
  exact Finset.sum_congr rfl fun t _ => blkP_real hq hk t

include hv

/-- A query's weighted sum of the values of one block. -/
theorem blkA_real (e : Fin 256) : blkA q k v (ix2 i e) = ((∑ t, Real.exp (∑ d, a d * n t d) * n' t e : ℝ) : EReal) := by
  refine (Ideal.matmul_plain_apply none (truncf .bf16 (blkP q k) bitsLt_bf16_f32) v _ i e).trans ?_
  show Ideal.ofBits .f32 0x00000000#32 + _ = _
  rw [Ideal.ofBits_zero_f32, zero_add, coe_sum]
  refine Finset.sum_congr rfl fun t _ => ?_
  show blkP q k (ix2 i t) * _ = _
  rw [blkP_real hq hk, hv, EReal.coe_mul]

end one

variable {k v : Fin 8 → FVec Ideal S1024x256 .bf16} {n n' : Fin 8 → Fin 1024 → Fin 256 → ℝ} (hk : ∀ b t d, k b (ix2 t d) = (n b t d : EReal))
  (hv : ∀ b t d, v b (ix2 t d) = (n' b t d : EReal))
include hk

/-- A query's sum of the weights of the eight blocks. -/
theorem sumL_real (u : Fin 1) : sumL q k (ix2 i u) = ((∑ b, ∑ t, Real.exp (∑ d, a d * n b t d) : ℝ) : EReal) := by
  rw [Fin.sum_univ_eight]
  show blkL q (k 0) (ix2 i u) + blkL q (k 1) (ix2 i u) + blkL q (k 2) (ix2 i u) + blkL q (k 3) (ix2 i u) + blkL q (k 4) (ix2 i u)
    + blkL q (k 5) (ix2 i u) + blkL q (k 6) (ix2 i u) + blkL q (k 7) (ix2 i u) = _
  rw [blkL_real hq (hk 0), blkL_real hq (hk 1), blkL_real hq (hk 2), blkL_real hq (hk 3), blkL_real hq (hk 4), blkL_real hq (hk 5),
    blkL_real hq (hk 6), blkL_real hq (hk 7)]
  push_cast
  rfl

include hv

/-- A query's weighted sum of the values of the eight blocks. -/
theorem sumA_real (e : Fin 256) : sumA q k v (ix2 i e) = ((∑ b, ∑ t, Real.exp (∑ d, a d * n b t d) * n' b t e : ℝ) : EReal) := by
  rw [Fin.sum_univ_eight]
  show blkA q (k 0) (v 0) (ix2 i e) + blkA q (k 1) (v 1) (ix2 i e) + blkA q (k 2) (v 2) (ix2 i e) + blkA q (k 3) (v 3) (ix2 i e)
    + blkA q (k 4) (v 4) (ix2 i e) + blkA q (k 5) (v 5) (ix2 i e) + blkA q (k 6) (v 6) (ix2 i e) + blkA q (k 7) (v 7) (ix2 i e) = _
  rw [blkA_real hq (hk 0) (hv 0), blkA_real hq (hk 1) (hv 1), blkA_real hq (hk 2) (hv 2), blkA_real hq (hk 3) (hv 3),
    blkA_real hq (hk 4) (hv 4), blkA_real hq (hk 5) (hv 5), blkA_real hq (hk 6) (hv 6), blkA_real hq (hk 7) (hv 7)]
  push_cast
  rfl

/-- With real queries, keys and values the attention is the quotient of the two sums, times the step. -/
theorem attend_real (e : Fin 256) : attend q k v (ix2 i e)
    = (((∑ b, ∑ t, Real.exp (∑ d, a d * n b t d) * n' b t e) * step / ∑ b, ∑ t, Real.exp (∑ d, a d * n b t d) : ℝ) : EReal) := by
  have hb : broadcastTo S1024x256 (sumL q k) broadcasts_S1024x1_S1024x256 (ix2 i e) = sumL q k (ix2 i (0 : Fin 1)) := by
    refine congrArg (sumL q k) (funext fun x => ?_)
    match x with
    | ⟨0, _⟩ => rfl
    | ⟨1, _⟩ => rfl
  show Ideal.div (sumA q k v (ix2 i e) * Ideal.ofBits .f32 0x3D010204#32) _ = _
  rw [hb, sumA_real hq hk hv, sumL_real hq hk, const_step, ← EReal.coe_mul]
  exact div_real _ (Finset.sum_pos (fun b _ => Finset.sum_pos (fun t _ => Real.exp_pos _) ⟨0, Finset.mem_univ _⟩) ⟨0, Finset.mem_univ _⟩)

end Cert.GatherProof

end
-- ==== Proof.Codes.lean ====
/- The codes the kernel stores, sends and reads back, and its scaled queries, over the extended reals: each code block,
   the device's own or a received one, is the quantiser's integer at every element of the block of keys or values. -/
module

public import proofs.«01_k».proof.Proof.Blocks
public import Idealize.ShloMosaic.Lib.Layout

@[expose] public section

noncomputable section

namespace Cert.GatherProof

open Cert.KernelIdeal Cert.KernelIdeal.Gen
open Idealize.ShloMosaic hiding ix1 ix2 ix3 ix4 ix5
open Idealize.ShloMosaic.ValueIdx

/-! ## A block's codes -/

/-- The codes of 1024 rows, as stored. -/
def stored (x : Vec Ideal S1024x256 .f32) : Vec Ideal S1x1x1024x256 .i8 :=
  shapeCast S1x1x1024x256 (fptosi (F := Ideal) (φ := .f32) 8 (roundeven (minimumf (broadcast S1024x256 (Scalar.ofBits .f32 0x42FE0000#32))
    (maximumf (broadcast S1024x256 (Scalar.ofBits .f32 0xC2FE0000#32))
      (mulf (shapeCast S1024x256 x shapeCasts_S1024x256_S1024x256) (broadcast S1024x256 (Scalar.ofBits .f32 0x41FE0000#32)))))))
    shapeCasts_S1024x256_S1x1x1024x256

/-- What is stored for the keys of a chunk is the codes of that half of the keys. -/
theorem kvPiece_key (k v : Vec Ideal S2048x256 .f32) : ∀ ch, kvPiece k v ch 0 = stored (half ch k)
  | 0 => rfl
  | 1 => rfl
/-- What is stored for the values of a chunk is the codes of that half of the values. -/
theorem kvPiece_value (k v : Vec Ideal S2048x256 .f32) : ∀ ch, kvPiece k v ch 1 = stored (half ch v)
  | 0 => rfl
  | 1 => rfl

/-- A reshape to the same shape changes nothing. -/
theorem same_cast {α : Type} (x : S1024x256.Idx → α) (h : S1024x256.ShapeCasts S1024x256) : shapeCast S1024x256 x h = x :=
  funext fun i => shapeCast_apply x h i i rfl

/-- A stored code. -/
theorem stored_apply (x : Vec Ideal S1024x256 .f32) (t : Fin 1024) (d : Fin 256) :
    stored x (ix4 (0 : Fin 1) (0 : Fin 1) t d) = Ideal.fptosi 8 ((code (x (ix2 t d)) : ℝ) : EReal) := by
  unfold stored
  rw [shapeCast_apply _ shapeCasts_S1024x256_S1x1x1024x256 (ix4 (0 : Fin 1) (0 : Fin 1) t d) (ix2 t d) (by
    rw [Shape.rowMajor_val_two, Shape.rowMajor_val_four]
    show t.val * 256 + d.val = ((0 * 1 + 0) * 1024 + t.val) * 256 + d.val
    omega), same_cast]
  show Ideal.fptosi 8 (Ideal.liftRound Ideal.roundHalfEven (min (Ideal.ofBits .f32 0x42FE0000#32)
    (max (Ideal.ofBits .f32 0xC2FE0000#32) (x (ix2 t d) * Ideal.ofBits .f32 0x41FE0000#32)))) = _
  rw [const_gain, const_low, const_high]
  exact congrArg (Ideal.fptosi 8) (round_clip _)

/-- The device's own codes, as numbers. -/
theorem ownNum_apply (x : Vec Ideal S1024x256 .f32) (t : Fin 1024) (d : Fin 256) :
    ownNum (stored x) (ix2 t d) = ((code (x (ix2 t d)) : ℝ) : EReal) := by
  show (((shapeCast S1024x256 (stored x) shapeCasts_S1x1x1024x256_S1024x256 (ix2 t d)).toInt : ℝ) : EReal) = _
  rw [shapeCast_apply _ shapeCasts_S1x1x1024x256_S1024x256 (ix2 t d) (ix4 (0 : Fin 1) (0 : Fin 1) t d) (by
    rw [Shape.rowMajor_val_two, Shape.rowMajor_val_four]
    show ((0 * 1 + 0) * 1024 + t.val) * 256 + d.val = t.val * 256 + d.val
    omega), stored_apply, byte_code]

/-- Received codes, as numbers. -/
theorem gotNum_apply (x : Vec Ideal S1024x256 .f32) (t : Fin 1024) (d : Fin 256) :
    gotNum (cmPiece (F := Ideal) (stored x)) (ix2 t d) = ((code (x (ix2 t d)) : ℝ) : EReal) := by
  show (((shapeCast S1024x256 (cmPiece (F := Ideal) (stored x)) shapeCasts_S1x1x1x1024x256_S1024x256 (ix2 t d)).toInt : ℝ) : EReal) = _
  rw [shapeCast_apply _ shapeCasts_S1x1x1x1024x256_S1024x256 (ix2 t d) (ix5 (0 : Fin 1) (0 : Fin 1) (0 : Fin 1) t d) (by
    rw [Shape.rowMajor_val_two, Shape.rowMajor_val_five]
    show (((0 * 1 + 0) * 1 + 0) * 1024 + t.val) * 256 + d.val = t.val * 256 + d.val
    omega)]
  show (((stored x (ix4 (0 : Fin 1) (0 : Fin 1) t d)).toInt : ℝ) : EReal) = _
  rw [stored_apply, byte_code]

/-- A scaled query. -/
theorem scaled_apply (q : Vec Ideal S1024x256 .f32) (i : Fin 1024) (d : Fin 256) (a : ℝ) (ha : q (ix2 i d) = (a : EReal)) :
    scaled q (ix2 i d) = ((a * (step / 16) : ℝ) : EReal) := by
  unfold scaled
  rw [same_cast]
  show q (ix2 i d) * Ideal.ofBits .f32 0x3B010204#32 = _
  rw [ha, const_scale, EReal.coe_mul]

/-! ## The devices' blocks of a whole array -/

/-- Row `t` of half `h` of device `c`'s block, in the whole array. -/
def rowAt (c : Fin 4) (h : Fin 2) (t : Fin 1024) : Fin 8192 := ⟨c.val * 2048 + (1024 * h.val + t.val), by omega⟩

/-- A device's half block is those rows of the whole array. -/
theorem half_block (X : (⟨2, ![8192, 256]⟩ : Shape).Idx → EReal) (c : Fin 4) (h : Fin 2) (t : Fin 1024) (d : Fin 256) :
    half (F := Ideal) h (Layout.block ⟨2, ![2048, 256]⟩ ⟨2, ![8192, 256]⟩ 0 4 c X) (ix2 t d) = X (ix2 (rowAt c h t) d) :=
  congrArg X (funext fun a => match a with
    | ⟨0, _⟩ => rfl
    | ⟨1, _⟩ => rfl)

/-- The whole array's rows are the devices' halves' rows. -/
theorem sum_rows (f : Fin 8192 → ℝ) : ∑ j, f j = ∑ c : Fin 4, ∑ h : Fin 2, ∑ t : Fin 1024, f (rowAt c h t) := by
  have e1 : ∑ j, f j = ∑ c : Fin 4, ∑ r : Fin 2048, f (finProdFinEquiv (c, r)) := by
    rw [← Fintype.sum_prod_type', ← Equiv.sum_comp (finProdFinEquiv (m := 4) (n := 2048)) f]
  have e2 : ∀ g : Fin 2048 → ℝ, ∑ r, g r = ∑ h : Fin 2, ∑ t : Fin 1024, g (finProdFinEquiv (h, t)) := fun g => by
    rw [← Fintype.sum_prod_type', ← Equiv.sum_comp (finProdFinEquiv (m := 2) (n := 1024)) g]
  rw [e1]
  refine Finset.sum_congr rfl fun c _ => ?_
  rw [e2]
  refine Finset.sum_congr rfl fun h _ => Finset.sum_congr rfl fun t _ => congrArg f (Fin.ext ?_)
  show t.val + 1024 * h.val + 2048 * c.val = c.val * 2048 + (1024 * h.val + t.val)
  omega

/-- The device and the chunk block `b` of device `c`'s eight comes from. -/
def origin (c : Dev nD) : Fin 8 → Dev nD × Fin 2
  | 0 => (c, 0)
  | 1 => (c, 1)
  | 2 => (src 0 c, 0)
  | 3 => (src 2 c, 0)
  | 4 => (src 0 c, 1)
  | 5 => (src 2 c, 1)
  | 6 => (src 1 c, 0)
  | 7 => (src 1 c, 1)

/-- A device's eight blocks are every device's two chunks, each once. -/
theorem sum_origin (c : Dev nD) (f : Dev nD → Fin 2 → ℝ) : ∑ b, f (origin c b).1 (origin c b).2 = ∑ c' : Fin 4, ∑ h : Fin 2, f c' h := by
  rw [Fin.sum_univ_eight, Fin.sum_univ_four, Fin.sum_univ_two, Fin.sum_univ_two, Fin.sum_univ_two, Fin.sum_univ_two]
  show f c 0 + f c 1 + f (src 0 c) 0 + f (src 2 c) 0 + f (src 0 c) 1 + f (src 2 c) 1 + f (src 1 c) 0 + f (src 1 c) 1 = _
  have h : ∀ c : Dev nD, (c = 0 ∧ src 0 c = 1 ∧ src 1 c = 2 ∧ src 2 c = 3) ∨ (c = 1 ∧ src 0 c = 2 ∧ src 1 c = 3 ∧ src 2 c = 0)
      ∨ (c = 2 ∧ src 0 c = 3 ∧ src 1 c = 0 ∧ src 2 c = 1) ∨ (c = 3 ∧ src 0 c = 0 ∧ src 1 c = 1 ∧ src 2 c = 2) := by decide
  rcases h c with ⟨e, e0, e1, e2⟩ | ⟨e, e0, e1, e2⟩ | ⟨e, e0, e1, e2⟩ | ⟨e, e0, e1, e2⟩ <;> rw [e0, e1, e2, e] <;> ring

/-- The sum over a device's eight blocks is the sum over the whole array's rows. -/
theorem sum_blocks (c : Dev nD) (f : Fin 8192 → ℝ) : ∑ b, ∑ t, f (rowAt (origin c b).1 (origin c b).2 t) = ∑ j, f j :=
  (sum_origin c fun c' h => ∑ t, f (rowAt c' h t)).trans (sum_rows f).symm

end Cert.GatherProof

end
-- ==== Proof.Final.lean ====
/- The windows' one block is the whole array: what the body is handed is the argument array itself, and the result array
   ends as the block the body leaves. -/
module

public import proofs.«01_k».proof.Proof.Run

@[expose] public section

noncomputable section

namespace Cert.GatherProof

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg) (c : Dev nD)

omit [FloatOps F] in
theorem qst_eq : qst m ρ c = m ((c : Thread nD τ).loc main_arg0) :=
  funext fun i => congrArg (m ((c : Thread nD τ).loc main_arg0)) (funext fun a => match a with
    | ⟨0, _⟩ => Fin.ext (show 0 * 2048 + 1 * (i 0).val = (i 0).val by omega)
    | ⟨1, _⟩ => Fin.ext (show 0 * 256 + 1 * (i 1).val = (i 1).val by omega))
omit [FloatOps F] in
theorem kst_eq : kst m ρ c = m ((c : Thread nD τ).loc main_arg1) :=
  funext fun i => congrArg (m ((c : Thread nD τ).loc main_arg1)) (funext fun a => match a with
    | ⟨0, _⟩ => Fin.ext (show 0 * 2048 + 1 * (i 0).val = (i 0).val by omega)
    | ⟨1, _⟩ => Fin.ext (show 0 * 256 + 1 * (i 1).val = (i 1).val by omega))
omit [FloatOps F] in
theorem vst_eq : vst m ρ c = m ((c : Thread nD τ).loc main_arg2) :=
  funext fun i => congrArg (m ((c : Thread nD τ).loc main_arg2)) (funext fun a => match a with
    | ⟨0, _⟩ => Fin.ext (show 0 * 2048 + 1 * (i 0).val = (i 0).val by omega)
    | ⟨1, _⟩ => Fin.ext (show 0 * 256 + 1 * (i 1).val = (i 1).val by omega))

/-- The result array read through its one block is what the body left. -/
theorem read_out : (win0_3.blk (0 : Fin 1)).view.read (Elt F) (finalA m ρ c (3 : Fin 4)) = result (inp m ρ c) := by
  unfold finalA
  rw [show cfg0.N = ((0 : Fin 1) : Fin cfg0.N).val + 1 from rfl, (dats m ρ 0 c).arrAt_succ (3 : Fin 4) (0 : Fin 1),
    show (cfg0.win (3 : Fin 4)).flush (0 : Fin 1) = true from by decide, if_pos rfl]
  exact View.read_write_univ _ _

/-- Every device's result array ends as the block its body leaves. -/
theorem finalA_out : finalA m ρ c (3 : Fin 4) = result (inp m ρ c) := by
  refine Eq.trans (funext fun i => congrArg (finalA m ρ c (3 : Fin 4)) (funext fun a => ?_)) (read_out m ρ c)
  match a with
  | ⟨0, _⟩ => exact Fin.ext (show (i 0).val = 0 * 2048 + 1 * (i 0).val by omega)
  | ⟨1, _⟩ => exact Fin.ext (show (i 1).val = 0 * 256 + 1 * (i 1).val by omega)

end Cert.GatherProof

end
-- ==== Proof.Ref.lean ====
/- The reference's result at an index, over the extended reals: softmax of the scores against the quantised keys, taken
   with the largest score subtracted, times the quantised values. With a row of finite queries everything in it is a real. -/
module

public import proofs.«01_k».proof.Proof.Gen.ReferenceIdeal
public import proofs.«01_k».proof.Proof.Gen.ReferenceIdeal.Run
public import proofs.«01_k».proof.Proof.Quant
public import Idealize.ShloMosaic.Lib.MatmulPlain
public import Idealize.ShloMosaic.Lib.Pointwise.Reduce
public import Idealize.ShloMosaic.Lib.ValueLayoutCasts

@[expose] public section

noncomputable section

namespace Cert.GatherProof

open Cert.ReferenceIdeal Cert.ReferenceIdeal.Gen
open Idealize.ShloMosaic hiding ix1 ix2 ix3 ix4 ix5
open Idealize.ShloMosaic.ValueIdx

/-- The quantised array, as numbers. -/
def rounded (x : FVec Ideal S8192x256 .f32) : FVec Ideal S8192x256 .f32 :=
  mulf (Host.roundeven (minimumf (broadcastInDim S8192x256 ![] bcast_S_S8192x256 (id (constant S_ .f32 0x42FE0000#32)))
    (maximumf (broadcastInDim S8192x256 ![] bcast_S_S8192x256 (id (constant S_ .f32 0xC2FE0000#32)))
      (mulf x (broadcastInDim S8192x256 ![] bcast_S_S8192x256 (constant S_ .f32 0x41FE0000#32))))))
    (broadcastInDim S8192x256 ![] bcast_S_S8192x256 (constant S_ .f32 0x3D010204#32))
/-- The scores. -/
def scores (q k : FVec Ideal S8192x256 .f32) : FVec Ideal S8192x8192 .f32 :=
  Host.divf (Host.dotGeneral dot_S8192x256_S256x8192_S8192x8192_1_0_0_1_n_n none q
      (transpose S256x8192 [1, 0] (rounded k) transposes_S8192x256_S256x8192_1_0))
    (broadcastInDim S8192x8192 ![] bcast_S_S8192x8192 (id (Host.sqrt (constant S_ .f32 0x43800000#32))))
/-- Each row's largest score. -/
def largest (s : FVec Ideal S8192x8192 .f32) : FVec Ideal S8192 .f32 :=
  Host.reduce FloatOps.maximumf s (constant S_ .f32 0xFF800000#32) reducesTo_S8192x8192_S8192_d1 h_S_
/-- One number per row, along the row. -/
def along (x : FVec Ideal S8192 .f32) : FVec Ideal S8192x8192 .f32 :=
  broadcastInDim S8192x8192 ![0, 1] bcast_S8192x1_S8192x8192_0_1 (broadcastInDim S8192x1 ![0] bcast_S8192_S8192x1_0 x)
/-- The exponentials of the scores less the row's largest. -/
def weights (s : FVec Ideal S8192x8192 .f32) : FVec Ideal S8192x8192 .f32 := Host.exp (subf s (along (largest s)))
/-- Each row's sum of them. -/
def total (w : FVec Ideal S8192x8192 .f32) : FVec Ideal S8192 .f32 :=
  Host.reduceAdd w (constant S_ .f32 0x00000000#32) reducesTo_S8192x8192_S8192_d1 h_S_
/-- The weights over their row's sum. -/
def shares (w : FVec Ideal S8192x8192 .f32) : FVec Ideal S8192x8192 .f32 := Host.divf w (along (total w))
/-- The reference's result. -/
def refOut (q k v : FVec Ideal S8192x256 .f32) : FVec Ideal S8192x256 .f32 :=
  Host.dotGeneral dot_S8192x8192_S8192x256_S8192x256_1_0_0_1_n_n none
    (shares (weights (scores q k))) (rounded v)

/-- The reference's run ends with `refOut` of its arguments. -/
theorem res_eq (m : (ℓ : Loc nD τ sig) → Buf (Elt Ideal) ℓ) (c : Dev nD) : Cert.ReferenceIdeal.Value.res_main_v27 m c
    = refOut (m ((c.tc : Thread nD τ).loc main_arg0)) (m ((c.tc : Thread nD τ).loc main_arg1)) (m ((c.tc : Thread nD τ).loc main_arg2)) := rfl

/-! ## At an index -/

/-- A quantised element is its code times the step. -/
theorem rounded_apply (x : FVec Ideal S8192x256 .f32) (j : Fin 8192) (d : Fin 256) :
    rounded x (ix2 j d) = ((code (x (ix2 j d)) * step : ℝ) : EReal) := by
  show Ideal.liftRound Ideal.roundHalfEven (min (Ideal.ofBits .f32 0x42FE0000#32)
    (max (Ideal.ofBits .f32 0xC2FE0000#32) (x (ix2 j d) * Ideal.ofBits .f32 0x41FE0000#32))) * Ideal.ofBits .f32 0x3D010204#32 = _
  rw [const_gain, const_low, const_high, const_step, EReal.coe_mul]
  exact congrArg (· * ((step : ℝ) : EReal)) (round_clip _)

/-- Along a row stands the row's number. -/
theorem along_apply (x : FVec Ideal S8192 .f32) (r j : Fin 8192) : along x (ix2 r j) = x (ix1 r) :=
  congrArg x (funext fun a => match a with
    | ⟨0, _⟩ => rfl)

variable {q k v : FVec Ideal S8192x256 .f32} {r : Fin 8192} {a : Fin 256 → ℝ} (hq : ∀ d, q (ix2 r d) = (a d : EReal))

include hq in
theorem scores_real (j : Fin 8192) : scores q k (ix2 r j) = (((∑ d, a d * (code (k (ix2 j d)) * step)) / 16 : ℝ) : EReal) := by
  have e : Host.dotGeneral (F := Ideal) (φ₁ := .f32) (φ₂ := .f32) dot_S8192x256_S256x8192_S8192x8192_1_0_0_1_n_n none q
      (transpose S256x8192 [1, 0] (rounded k) transposes_S8192x256_S256x8192_1_0) (ix2 r j)
      = ((∑ d, a d * (code (k (ix2 j d)) * step) : ℝ) : EReal) := by
    refine (Ideal.matmul_plain_apply (φ₁ := .f32) (φ₂ := .f32) none q
      (transpose S256x8192 [1, 0] (rounded k) transposes_S8192x256_S256x8192_1_0) (fun _ => 0) r j).trans ?_
    rw [zero_add, coe_sum]
    refine Finset.sum_congr rfl fun d _ => ?_
    rw [transpose_apply _ _ transposes_S8192x256_S256x8192_1_0 (ix2 d j) (ix2 j d) (fun b => match b with
      | ⟨0, _⟩ => rfl
      | ⟨1, _⟩ => rfl), rounded_apply, hq, ← EReal.coe_mul]
  show Ideal.div (Host.dotGeneral (F := Ideal) (φ₁ := .f32) (φ₂ := .f32) dot_S8192x256_S256x8192_S8192x8192_1_0_0_1_n_n none q
      (transpose S256x8192 [1, 0] (rounded k) transposes_S8192x256_S256x8192_1_0) (ix2 r j)) (Ideal.sqrt (Ideal.ofBits .f32 0x43800000#32)) = _
  rw [e, const_width, sqrt_width]
  exact div_real _ (by norm_num)

/-- A row of real scores has a real largest one. -/
theorem largest_real {s : FVec Ideal S8192x8192 .f32} {r : Fin 8192} {x : Fin 8192 → ℝ} (hs : ∀ j, s (ix2 r j) = (x j : EReal)) :
    ∃ M : ℝ, largest s (ix1 r) = (M : EReal) := by
  have e : largest s (ix1 r) = (Finset.univ : Finset (Fin 8192)).fold max (⊥ : EReal) (fun j => (x j : EReal)) := by
    unfold largest
    rw [Host.reduce_eq_fold]
    show Finset.fold max (Ideal.ofBits .f32 0xFF800000#32) _ _ = _
    rw [const_bot]
    refine (Shape.ReducesTo.fold_fiber_r2_a1 reducesTo_S8192x8192_S8192_d1 (ix1 r) max (⊥ : EReal) s).trans ?_
    exact Finset.fold_congr fun j _ => hs j
  have h1 : largest s (ix1 r) ≠ ⊤ := by
    rw [e]
    exact ((Finset.fold_max_lt _).mpr ⟨bot_lt_top (α := EReal), fun j _ => EReal.coe_lt_top _⟩).ne
  have h2 : largest s (ix1 r) ≠ ⊥ := by
    rw [e]
    exact ne_bot_of_le_ne_bot (EReal.coe_ne_bot (x 0)) ((Finset.le_fold_max _).mpr (Or.inr ⟨0, Finset.mem_univ _, le_rfl⟩))
  exact ⟨_, (EReal.coe_toReal h1 h2).symm⟩

/-- On a row of real scores a weight is the exponential of the score less the largest. -/
theorem weights_real {s : FVec Ideal S8192x8192 .f32} {r : Fin 8192} {x : Fin 8192 → ℝ} {M : ℝ} (hs : ∀ j, s (ix2 r j) = (x j : EReal))
    (hM : largest s (ix1 r) = (M : EReal)) (j : Fin 8192) : weights s (ix2 r j) = ((Real.exp (x j - M) : ℝ) : EReal) := by
  show Ideal.exp (s (ix2 r j) - along (largest s) (ix2 r j)) = _
  rw [along_apply, hs, hM, ← EReal.coe_sub]
  rfl

/-- On a row of real weights the row's sum is their sum. -/
theorem total_real {w : FVec Ideal S8192x8192 .f32} {r : Fin 8192} {y : Fin 8192 → ℝ} (hw : ∀ j, w (ix2 r j) = (y j : EReal)) :
    total w (ix1 r) = ((∑ j, y j : ℝ) : EReal) := by
  refine (Ideal.hostReduceAdd_r2_a1 reducesTo_S8192x8192_S8192_d1 w _ (ix1 r)).trans ?_
  show Ideal.ofBits .f32 0x00000000#32 + _ = _
  rw [Ideal.ofBits_zero_f32, zero_add, coe_sum]
  exact Finset.sum_congr rfl fun j _ => hw j

/-- On a row of real weights with a positive sum a share is the weight over the sum. -/
theorem shares_real {w : FVec Ideal S8192x8192 .f32} {r : Fin 8192} {y : Fin 8192 → ℝ} (hw : ∀ j, w (ix2 r j) = (y j : EReal))
    (hp : 0 < ∑ j, y j) (j : Fin 8192) : shares w (ix2 r j) = ((y j / ∑ j, y j : ℝ) : EReal) := by
  have e : shares w (ix2 r j) = FloatOps.hostDivf (w (ix2 r j)) (along (total w) (ix2 r j)) := rfl
  rw [e, Ideal.hostDivf_def, along_apply, total_real hw, hw]
  exact div_real _ hp

include hq in
/-- The reference's result on a row of finite queries. -/
theorem refOut_real (e : Fin 256) : refOut q k v (ix2 r e)
    = (((∑ j, Real.exp ((∑ d, a d * (code (k (ix2 j d)) * step)) / 16) * code (v (ix2 j e))) * step
        / ∑ j, Real.exp ((∑ d, a d * (code (k (ix2 j d)) * step)) / 16) : ℝ) : EReal) := by
  obtain ⟨x, hx⟩ : ∃ x : Fin 8192 → ℝ, x = fun j => (∑ d, a d * (code (k (ix2 j d)) * step)) / 16 := ⟨_, rfl⟩
  have hs : ∀ j, scores q k (ix2 r j) = (x j : EReal) := fun j => by rw [hx]; exact scores_real hq j
  obtain ⟨M, hM⟩ := largest_real hs
  have hw := weights_real hs hM
  have hp : 0 < ∑ j, Real.exp (x j - M) := Finset.sum_pos (fun j _ => Real.exp_pos _) ⟨0, Finset.mem_univ _⟩
  have hd := shares_real hw hp
  refine (Ideal.matmul_plain_apply (φ₁ := .f32) (φ₂ := .f32) none
    (shares (weights (scores q k))) (rounded v) (fun _ => 0) r e).trans ?_
  rw [zero_add, show (fun j => Real.exp ((∑ d, a d * (code (k (ix2 j d)) * step)) / 16)) = fun j => Real.exp (x j) by rw [hx]]
  have ht : ∀ j, shares (weights (scores q k)) (ix2 r j) * rounded v (ix2 j e)
      = ((Real.exp (x j - M) / (∑ j, Real.exp (x j - M)) * (code (v (ix2 j e)) * step) : ℝ) : EReal) := fun j => by
    rw [hd, rounded_apply, ← EReal.coe_mul]
  rw [Finset.sum_congr rfl fun j _ => ht j, ← coe_sum]
  refine congrArg _ ?_
  have hx' : ∀ j, (∑ d, a d * (code (k (ix2 j d)) * step)) / 16 = x j := fun j => by rw [hx]
  simp only [hx']
  have hM' := (Real.exp_pos M).ne'
  have hp' : (∑ j, Real.exp (x j)) ≠ 0 := (Finset.sum_pos (fun j _ => Real.exp_pos (x j)) ⟨0, Finset.mem_univ _⟩).ne'
  have h1 : ∑ j, Real.exp (x j - M) = (∑ j, Real.exp (x j)) / Real.exp M := by
    rw [Finset.sum_div]
    exact Finset.sum_congr rfl fun j _ => Real.exp_sub _ _
  rw [h1]
  generalize (∑ j, Real.exp (x j)) = S at hp'
  rw [Finset.sum_mul, Finset.sum_div]
  refine Finset.sum_congr rfl fun j _ => ?_
  rw [Real.exp_sub]
  field_simp

end Cert.GatherProof

end
-- ==== Proof.Value.lean ====
/- The kernel's result on every device is that device's block of the reference's: with real queries both are the same real
   at every index. -/
module

public import proofs.«01_k».proof.Proof.Codes
public import proofs.«01_k».proof.Proof.Final
public import proofs.«01_k».proof.Proof.Ref

@[expose] public section

noncomputable section

namespace Cert.GatherProof

open Cert.KernelIdeal Cert.KernelIdeal.Gen
open Idealize.ShloMosaic hiding ix1 ix2 ix3 ix4 ix5
open Idealize.ShloMosaic.ValueIdx
open Idealize.ShloMosaic.TcCoe
open Idealize.SL.Sem

/-- Device `c`'s block of a whole array. -/
abbrev part (c : Dev nD) (X : (⟨2, ![8192, 256]⟩ : Shape).Idx → EReal) : (⟨2, ![2048, 256]⟩ : Shape).Idx → EReal :=
  Layout.block ⟨2, ![2048, 256]⟩ ⟨2, ![8192, 256]⟩ 0 4 c X

variable (m : (ℓ : Loc nD τ sig) → Buf (Elt Ideal) ℓ) (ρ : Dev nD → PrngReg) (Q K V : (⟨2, ![8192, 256]⟩ : Shape).Idx → EReal)
  (hK : ∀ c : Dev nD, m ((c : Thread nD τ).loc main_arg1) = part c K) (hV : ∀ c : Dev nD, m ((c : Thread nD τ).loc main_arg2) = part c V)

include hK in
/-- The key blocks a device takes hold the codes of the whole array's keys. -/
theorem keys_real (c : Dev nD) (b : Fin 8) (t : Fin 1024) (d : Fin 256) : blockNum (inp m ρ c) 0 b (ix2 t d)
    = ((code (K (ix2 (rowAt (origin c b).1 (origin c b).2 t) d)) : ℝ) : EReal) := by
  have e : ∀ c' ch, kvPiece (kst m ρ c') (vst m ρ c') ch 0 = stored (half ch (part c' K)) := fun c' ch => by
    rw [kvPiece_key, kst_eq, hK]
  have o : ∀ ch, ownNum ((inp m ρ c).own ch 0) (ix2 t d) = ((code (K (ix2 (rowAt c ch t) d)) : ℝ) : EReal) := fun ch => by
    show ownNum (kvPiece (kst m ρ c) (vst m ρ c) ch 0) (ix2 t d) = _
    rw [e, ownNum_apply, half_block]
  have g : ∀ x : X, gotNum ((inp m ρ c).got x 0) (ix2 t d) = ((code (K (ix2 (rowAt (src x.1 c) x.2 t) d)) : ℝ) : EReal) := fun x => by
    show gotNum (cmPiece (kvPiece (kst m ρ (src x.1 c)) (vst m ρ (src x.1 c)) x.2 0)) (ix2 t d) = _
    rw [e, gotNum_apply, half_block]
  match b with
  | 0 => exact o 0
  | 1 => exact o 1
  | 2 => exact g (0, 0)
  | 3 => exact g (2, 0)
  | 4 => exact g (0, 1)
  | 5 => exact g (2, 1)
  | 6 => exact g (1, 0)
  | 7 => exact g (1, 1)

include hV in
/-- The value blocks a device takes hold the codes of the whole array's values. -/
theorem values_real (c : Dev nD) (b : Fin 8) (t : Fin 1024) (d : Fin 256) : blockNum (inp m ρ c) 1 b (ix2 t d)
    = ((code (V (ix2 (rowAt (origin c b).1 (origin c b).2 t) d)) : ℝ) : EReal) := by
  have e : ∀ c' ch, kvPiece (kst m ρ c') (vst m ρ c') ch 1 = stored (half ch (part c' V)) := fun c' ch => by
    rw [kvPiece_value, vst_eq, hV]
  have o : ∀ ch, ownNum ((inp m ρ c).own ch 1) (ix2 t d) = ((code (V (ix2 (rowAt c ch t) d)) : ℝ) : EReal) := fun ch => by
    show ownNum (kvPiece (kst m ρ c) (vst m ρ c) ch 1) (ix2 t d) = _
    rw [e, ownNum_apply, half_block]
  have g : ∀ x : X, gotNum ((inp m ρ c).got x 1) (ix2 t d) = ((code (V (ix2 (rowAt (src x.1 c) x.2 t) d)) : ℝ) : EReal) := fun x => by
    show gotNum (cmPiece (kvPiece (kst m ρ (src x.1 c)) (vst m ρ (src x.1 c)) x.2 1)) (ix2 t d) = _
    rw [e, gotNum_apply, half_block]
  match b with
  | 0 => exact o 0
  | 1 => exact o 1
  | 2 => exact g (0, 0)
  | 3 => exact g (2, 0)
  | 4 => exact g (0, 1)
  | 5 => exact g (2, 1)
  | 6 => exact g (1, 0)
  | 7 => exact g (1, 1)

variable (hQ : ∀ c : Dev nD, m ((c : Thread nD τ).loc main_arg0) = part c Q) (a : Fin 8192 → Fin 256 → ℝ)
  (ha : ∀ r d, Q (ix2 r d) = (a r d : EReal))
include hK hV hQ ha

/-- A device's attention of one half of its queries is the reference's result on those rows. -/
theorem attend_ref (c : Dev nD) (h : Fin 2) (i : Fin 1024) (e : Fin 256) :
    attend (scaled (half h (inp m ρ c).q)) (blockNum (inp m ρ c) 0) (blockNum (inp m ρ c) 1) (ix2 i e) = refOut Q K V (ix2 (rowAt c h i) e) := by
  have hq : ∀ d, scaled (half h (inp m ρ c).q) (ix2 i d) = ((a (rowAt c h i) d * (step / 16) : ℝ) : EReal) := fun d =>
    scaled_apply _ _ _ _ (by
      show half h (qst m ρ c) (ix2 i d) = _
      rw [qst_eq, hQ, half_block, ha])
  rw [attend_real hq (keys_real m ρ K hK c) (values_real m ρ V hV c), refOut_real (fun d => ha (rowAt c h i) d)]
  refine congrArg _ ?_
  rw [sum_blocks c fun j => Real.exp (∑ d, a (rowAt c h i) d * (step / 16) * code (K (ix2 j d))) * code (V (ix2 j e)),
    sum_blocks c fun j => Real.exp (∑ d, a (rowAt c h i) d * (step / 16) * code (K (ix2 j d)))]
  have s : ∀ j : Fin 8192, ∑ d, a (rowAt c h i) d * (step / 16) * code (K (ix2 j d)) = (∑ d, a (rowAt c h i) d * (code (K (ix2 j d)) * step)) / 16 :=
    fun j => by
      rw [Finset.sum_div]
      exact Finset.sum_congr rfl fun d _ => by ring
  simp only [s]

/-- What each device ends with is its block of the reference's result. -/
theorem result_ref (c : Dev nD) : result (inp m ρ c) = part c (refOut Q K V) := by
  funext i
  have hi : (i 0).val < 2048 := (i 0).isLt
  show stack (Out0 (inp m ρ c)) (Out1 (inp m ρ c)) i = _
  unfold stack
  have row : ∀ (h : Fin 2) (t : Fin 1024), 1024 * h.val + t.val = (i 0).val →
      refOut Q K V (ix2 (rowAt c h t) (i 1 : Fin 256)) = part c (refOut Q K V) i := fun h t ht =>
    congrArg (refOut Q K V) (funext fun x => match x with
      | ⟨0, _⟩ => Fin.ext (show c.val * 2048 + (1024 * h.val + t.val) = c.val * 2048 + (i 0).val by rw [ht])
      | ⟨1, _⟩ => rfl)
  by_cases hlt : (i 0).val < 1024
  · rw [dif_pos hlt, Out0_eq]
    exact (attend_ref m ρ Q K V hK hV hQ a ha c 0 _ (i 1 : Fin 256)).trans (row 0 _ (by show 1024 * 0 + (i 0).val = (i 0).val; omega))
  · rw [dif_neg hlt, Out1_eq]
    exact (attend_ref m ρ Q K V hK hV hQ a ha c 1 _ (i 1 : Fin 256)).trans (row 1 _ (by show 1024 * 1 + ((i 0).val - 1024) = (i 0).val; omega))

end Cert.GatherProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Finite
public import proofs.«01_k».proof.Proof.Value
public import Idealize.ShloMosaic.Adequacy
public import Idealize.ShloMosaic.Init

@[expose] public section

noncomputable section

namespace Cert.Proof

open Idealize.ShloMosaic Idealize.SL.Sem

/-- The kernel's body table is its idealization's: no operation was rewritten. -/
theorem same_body : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl
/-- So are the two programs' definitions with the pipeline's added. -/
theorem same_defs : Cert.Kernel.defs (F := Bits) = Cert.KernelIdeal.defs (F := Bits) := congrArg (Pipeline.defs _) same_body

/-- The kernel runs, leaves its arguments as they were and every counter at zero: bit-exact floats. The kernel and its
    idealization are the same program text, so the one run over any float values serves both. -/
theorem frame_kernel : Cert.quiescent_Kernel := fun m ρ _ => by
  rw [same_defs]
  exact (θ_run Cert.KernelIdeal.defs (onTc (τ := Cert.KernelIdeal.τ) (Cert.KernelIdeal.main (F := Bits))) (GatherProof.s₀ m ρ)).mono
    (fun _ h => ⟨fun c => ⟨(h.1 c (0 : Fin 4)).trans (GatherProof.finalA_in m ρ c (0 : Fin 4) rfl),
      (h.1 c (1 : Fin 4)).trans (GatherProof.finalA_in m ρ c (1 : Fin 4) rfl),
      (h.1 c (2 : Fin 4)).trans (GatherProof.finalA_in m ρ c (2 : Fin 4) rfl)⟩, h.2⟩)
    (GatherProof.run_main (F := Bits) m ρ)

/-- The same of the idealization. -/
theorem frame_ideal : Cert.quiescent_KernelIdeal := fun m ρ _ =>
  (θ_run Cert.KernelIdeal.defs _ _).mono
    (fun _ h => ⟨fun c => ⟨(h.1 c (0 : Fin 4)).trans (GatherProof.finalA_in m ρ c (0 : Fin 4) rfl),
      (h.1 c (1 : Fin 4)).trans (GatherProof.finalA_in m ρ c (1 : Fin 4) rfl),
      (h.1 c (2 : Fin 4)).trans (GatherProof.finalA_in m ρ c (2 : Fin 4) rfl)⟩, h.2⟩)
    (GatherProof.run_main (F := Ideal) m ρ)

/-- The reference runs and leaves its arguments as they were; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition's stated shape relations, over a device's block and over the whole array. -/
theorem facts_block : Cert.Pre_finite_queries_KernelIdeal.Facts := ⟨by decide, by decide, by decide⟩
theorem facts_whole : Cert.Pre_finite_queries_ReferenceIdeal.Facts := ⟨by decide, by decide, by decide⟩

/-- Where every device's queries are finite, so is the whole array's every query. -/
theorem whole_real (m : (ℓ : Loc Cert.KernelIdeal.nD Cert.KernelIdeal.τ Cert.KernelIdeal.sig) → Buf (Elt Ideal) ℓ)
    (hm : Cert.Pre_KernelIdeal_finite_queries_KernelIdeal (hPre_finite_queries_KernelIdeal := facts_block) m)
    (Q : (⟨2, ![8192, 256]⟩ : Shape).Idx → EReal)
    (hQ : ∀ c : Dev Cert.KernelIdeal.nD, m ((c.tc : Thread Cert.KernelIdeal.nD Cert.KernelIdeal.τ).loc Cert.KernelIdeal.main_arg0) = GatherProof.part c Q)
    (r : Fin 8192) (d : Fin 256) : ∃ a : ℝ, Q (ValueIdx.ix2 r d) = (a : EReal) := by
  have hr : r.val < 8192 := r.isLt
  have hc : r.val / 2048 < 4 := by omega
  letI := facts_block
  have h := GatherProof.finite_real _ _ _ (hm ⟨r.val / 2048, hc⟩) (i := ValueIdx.ix2 (⟨r.val % 2048, by omega⟩ : Fin 2048) d)
  rw [hQ] at h
  obtain ⟨a, ha⟩ := h
  refine ⟨a, Eq.trans (congrArg Q (funext fun x => ?_)) ha⟩
  match x with
  | ⟨0, _⟩ => exact Fin.ext (show r.val = r.val / 2048 * 2048 + r.val % 2048 by omega)
  | ⟨1, _⟩ => rfl

/-- Where every query is finite, each device's result is its block of the reference's, over the extended reals. -/
theorem algebraic : Cert.algebraic_KernelIdeal_ReferenceIdeal_pre_finite_queries_KernelIdeal (hPre_finite_queries_KernelIdeal := facts_block) :=
  fun m ρ m' ρ' hm ha => by
    have real := whole_real m hm _ fun c => (ha c).1
    have key := fun c => GatherProof.result_ref m ρ _ _ _ (fun c => (ha c).2.1) (fun c => (ha c).2.2) (fun c => (ha c).1)
      (fun r d => (real r d).choose) (fun r d => (real r d).choose_spec) c
    refine ⟨Cert.ReferenceIdeal.Value.res_main_v27 m' 0, ?_, ?_⟩
    · exact (θ_run Cert.KernelIdeal.defs _ _).mono
        (fun _ h c => ⟨((h.1 c (3 : Fin 4)).trans (GatherProof.finalA_out m ρ c)).trans (key c),
          (h.1 c (0 : Fin 4)).trans (GatherProof.finalA_in m ρ c (0 : Fin 4) rfl),
          (h.1 c (1 : Fin 4)).trans (GatherProof.finalA_in m ρ c (1 : Fin 4) rfl),
          (h.1 c (2 : Fin 4)).trans (GatherProof.finalA_in m ρ c (2 : Fin 4) rfl)⟩)
        (GatherProof.run_main (F := Ideal) m ρ)
    · exact (θ_run Cert.ReferenceIdeal.defs _ _).mono (fun _ h => h 0) (Cert.ReferenceIdeal.Value.run (F := Ideal) m' ρ')

/-- The claim: the three runs, with and without the precondition, the unchanged idealization, and the equation. -/
theorem claim : Cert.Claim := ⟨Cert.Kernel.Gen.facts, Cert.KernelIdeal.Gen.facts, Cert.ReferenceIdeal.Gen.facts, facts_block, facts_whole,
  frame_kernel, frame_ideal, fun m ρ _ => frame_ideal m ρ trivial, frame_reference, fun m ρ _ => frame_reference m ρ trivial, trivial, algebraic⟩

end Cert.Proof

end
